-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x256x3584 : Shape := ⟨3, ![1, 256, 3584]⟩
abbrev S9472x3584 : Shape := ⟨2, ![9472, 3584]⟩
abbrev S18944x224 : Shape := ⟨2, ![18944, 224]⟩
abbrev S1x256x224x16 : Shape := ⟨4, ![1, 256, 224, 16]⟩
abbrev S_ : Shape := ⟨0, ![]⟩
abbrev S1x256x224 : Shape := ⟨3, ![1, 256, 224]⟩

class Facts : Prop where
  bitsLt_bf16_f32 : FTy.bits .bf16 < FTy.bits .f32
  shapeCasts_S1x256x3584_S1x256x224x16 : S1x256x3584.ShapeCasts S1x256x224x16
  reducesTo_S1x256x224x16_S1x256x224_d3 : S1x256x224x16.ReducesTo [3] S1x256x224
  h_S_ : 0 < S_.numel
  bcast_S_S1x256x224 : S_.BroadcastsInDim S1x256x224 (![] : Fin 0 → Fin S1x256x224.rank)
  natLt_8_32 : 8 < 32
  bcast_S_S18944x224 : S_.BroadcastsInDim S18944x224 (![] : Fin 0 → Fin S18944x224.rank)

variable [Facts]

def fn {F : FTy → Type} [FloatOps F] (main_arg0 : FVec F S1x256x3584 .bf16) (main_arg1 : IVec S9472x3584 8) (main_arg2 : IVec S18944x224 8) : IVec S1x256x224 1 × IVec S18944x224 1 :=
  let main_v0 : FVec F S1x256x3584 .f32 := (extf .f32 · bitsLt_bf16_f32) main_arg0
  let main_v1 : FVec F S1x256x224x16 .f32 := shapeCast S1x256x224x16 main_v0 shapeCasts_S1x256x3584_S1x256x224x16
  let main_v2 : FVec F S1x256x224x16 .f32 := Host.absf main_v1
  let main_cst : FVec F S_ .f32 := constant S_ .f32 0xFF800000#32
  let main_v3 : FVec F S1x256x224 .f32 := (fun x v => Host.reduce FloatOps.maximumf x v reducesTo_S1x256x224x16_S1x256x224_d3 h_S_) main_v2 main_cst
  let main_cst_0 : FVec F S_ .f32 := constant S_ .f32 0x00000000#32
  let main_v4 : FVec F S1x256x224 .f32 := broadcastInDim S1x256x224 ![] bcast_S_S1x256x224 main_cst_0
  let main_v5 : IVec S1x256x224 1 := cmpf .oeq main_v3 main_v4
  let main_cst_1 : FVec F S_ .f32 := constant S_ .f32 0x01000000#32
  let main_v6 : FVec F S1x256x224 .f32 := broadcastInDim S1x256x224 ![] bcast_S_S1x256x224 main_cst_1
  let main_v7 : IVec S1x256x224 1 := cmpf .oge main_v3 main_v6
  let main_cst_2 : FVec F S_ .f32 := constant S_ .f32 0x7F7F0000#32
  let main_v8 : FVec F S1x256x224 .f32 := broadcastInDim S1x256x224 ![] bcast_S_S1x256x224 main_cst_2
  let main_v9 : IVec S1x256x224 1 := cmpf .ole main_v3 main_v8
  let main_v10 : IVec S1x256x224 1 := andi main_v7 main_v9
  let main_v11 : IVec S1x256x224 1 := ori main_v5 main_v10
  let main_v12 : IVec S18944x224 32 := (extsi 32 · natLt_8_32) main_arg2
  let main_c : IVec S_ 32 := constantI S_ 32 118#32
  let main_v13 : IVec S18944x224 32 := broadcastInDim S18944x224 ![] bcast_S_S18944x224 main_c
  let main_v14 : IVec S18944x224 1 := cmpi .sle main_v12 main_v13
  (main_v11, main_v14)
-- ==== Kernel.lean ====
abbrev S1x256x3584 : Shape := ⟨3, ![1, 256, 3584]⟩
abbrev S9472x3584 : Shape := ⟨2, ![9472, 3584]⟩
abbrev S18944x224 : Shape := ⟨2, ![18944, 224]⟩
abbrev S256x3584 : Shape := ⟨2, ![256, 3584]⟩
abbrev S256x9472 : Shape := ⟨2, ![256, 9472]⟩
abbrev S256x1792 : Shape := ⟨2, ![256, 1792]⟩
abbrev S256x224 : Shape := ⟨2, ![256, 224]⟩
abbrev S256x256 : Shape := ⟨2, ![256, 256]⟩
abbrev S2x256x256 : Shape := ⟨3, ![2, 256, 256]⟩
abbrev S256x128 : Shape := ⟨2, ![256, 128]⟩
abbrev S256x128x1 : Shape := ⟨3, ![256, 128, 1]⟩
abbrev S256x96 : Shape := ⟨2, ![256, 96]⟩
abbrev S1x256x128 : Shape := ⟨3, ![1, 256, 128]⟩
abbrev S1x256x96 : Shape := ⟨3, ![1, 256, 96]⟩
abbrev S64x128 : Shape := ⟨2, ![64, 128]⟩
abbrev S256x18944 : Shape := ⟨2, ![256, 18944]⟩
abbrev S1x256x18944 : Shape := ⟨3, ![1, 256, 18944]⟩
abbrev S1x256x1792 : Shape := ⟨3, ![1, 256, 1792]⟩
abbrev S1x256x224 : Shape := ⟨3, ![1, 256, 224]⟩

abbrev nBuf : Space → Nat
  | .hbm => 12
  | .vmem => 15
  | .smem => 0
  | _ => 0

abbrev bufTy : (tb : Table) → Fin (tcTables nBuf tb) → BufTy
  | .hbm, ⟨0, _⟩ => ⟨S1x256x3584, .bf16⟩
  | .hbm, ⟨1, _⟩ => ⟨S9472x3584, .i8⟩
  | .hbm, ⟨2, _⟩ => ⟨S18944x224, .i8⟩
  | .hbm, ⟨3, _⟩ => ⟨S256x3584, .bf16⟩
  | .hbm, ⟨4, _⟩ => ⟨S256x9472, .bf16⟩
  | .hbm, ⟨5, _⟩ => ⟨S256x9472, .bf16⟩
  | .hbm, ⟨6, _⟩ => ⟨S256x1792, .i8⟩
  | .hbm, ⟨7, _⟩ => ⟨S256x224, .i8⟩
  | .hbm, ⟨8, _⟩ => ⟨S256x18944, .bf16⟩
  | .hbm, ⟨9, _⟩ => ⟨S1x256x18944, .bf16⟩
  | .hbm, ⟨10, _⟩ => ⟨S1x256x1792, .i8⟩
  | .hbm, ⟨11, _⟩ => ⟨S1x256x224, .i8⟩
  | .local _ .vmem, ⟨0, _⟩ => ⟨S256x3584, .bf16⟩
  | .local _ .vmem, ⟨1, _⟩ => ⟨S256x3584, .i8⟩
  | .local _ .vmem, ⟨2, _⟩ => ⟨S256x3584, .i8⟩
  | .local _ .vmem, ⟨3, _⟩ => ⟨S256x224, .i8⟩
  | .local _ .vmem, ⟨4, _⟩ => ⟨S256x224, .i8⟩
  | .local _ .vmem, ⟨5, _⟩ => ⟨S256x224, .i8⟩
  | .local _ .vmem, ⟨6, _⟩ => ⟨S256x224, .i8⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x1792, .i8⟩
  | .local _ .vmem, ⟨12, _⟩ => ⟨S256x224, .i8⟩
  | .local _ .vmem, ⟨13, _⟩ => ⟨S256x3584, .bf16⟩
  | .local _ .vmem, ⟨14, _⟩ => ⟨S2x256x256, .bf16⟩
  | _, _ => ⟨S1x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c37_i32 : BitVec 32 := 37#32
  let v0 : BitVec 32 := Scalar.addi arg0 c37_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x224 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x224 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1792 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x224 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x256x3584 : Shape := ⟨3, ![1, 256, 3584]⟩
abbrev S9472x3584 : Shape := ⟨2, ![9472, 3584]⟩
abbrev S18944x224 : Shape := ⟨2, ![18944, 224]⟩
abbrev S1x256x224x16 : Shape := ⟨4, ![1, 256, 224, 16]⟩
abbrev S_ : Shape := ⟨0, ![]⟩
abbrev S1x256x224 : Shape := ⟨3, ![1, 256, 224]⟩
abbrev S1x256x224x1 : Shape := ⟨4, ![1, 256, 224, 1]⟩
abbrev S1x256x1792 : Shape := ⟨3, ![1, 256, 1792]⟩
abbrev S9472x224 : Shape := ⟨2, ![9472, 224]⟩
abbrev S9472x224x16 : Shape := ⟨3, ![9472, 224, 16]⟩
abbrev S9472x224x1 : Shape := ⟨3, ![9472, 224, 1]⟩
abbrev S1x256x9472 : Shape := ⟨3, ![1, 256, 9472]⟩
abbrev S1x256x18944 : Shape := ⟨3, ![1, 256, 18944]⟩

abbrev nBuf : Space → Nat
  | .hbm => 144
  | .vmem => 0
  | .smem => 0
  | _ => 0

abbrev hbmTy0_0 (i : Nat) : BufTy := match i % 128 with
  | 0 => ⟨S1x256x3584, .bf16⟩
  | 1 => ⟨S9472x3584, .i8⟩
  | 2 => ⟨S18944x224, .i8⟩
  | 3 => ⟨S1x256x3584, .f32⟩
  | 4 => ⟨S1x256x224x16, .f32⟩
  | 5 => ⟨S1x256x224x16, .f32⟩
  | 6 => ⟨S_, .f32⟩
  | 7 => ⟨S1x256x224, .f32⟩
  | 8 => ⟨S1x256x224, .f32⟩
  | 9 => ⟨S_, .f32⟩
  | 10 => ⟨S1x256x224, .f32⟩
  | 11 => ⟨S1x256x224, .f32⟩
  | 12 => ⟨S1x256x224, .f32⟩
  | 13 => ⟨S_, .f32⟩
  | 14 => ⟨S1x256x224, .f32⟩
  | 15 => ⟨S1x256x224, .i1⟩
  | 16 => ⟨S1x256x224, .f32⟩
  | 17 => ⟨S_, .f32⟩
  | 18 => ⟨S1x256x224, .f32⟩
  | 19 => ⟨S1x256x224, .f32⟩
  | 20 => ⟨S_, .f32⟩
  | 21 => ⟨S_, .f32⟩
  | 22 => ⟨S1x256x224, .f32⟩
  | 23 => ⟨S1x256x224, .f32⟩
  | 24 => ⟨S_, .f32⟩
  | 25 => ⟨S1x256x224, .f32⟩
  | 26 => ⟨S1x256x224, .f32⟩
  | 27 => ⟨S1x256x224, .i32⟩
  | 28 => ⟨S_, .f32⟩
  | 29 => ⟨S1x256x224, .f32⟩
  | 30 => ⟨S_, .f32⟩
  | 31 => ⟨S1x256x224, .f32⟩
  | 32 => ⟨S1x256x224, .f32⟩
  | 33 => ⟨S1x256x224, .f32⟩
  | 34 => ⟨S1x256x224x1, .f32⟩
  | 35 => ⟨S1x256x224x16, .f32⟩
  | 36 => ⟨S1x256x224x16, .f32⟩
  | 37 => ⟨S1x256x224x16, .f32⟩
  | 38 => ⟨S_, .i32⟩
  | 39 => ⟨S_, .i32⟩
  | 40 => ⟨S_, .f32⟩
  | 41 => ⟨S1x256x224x16, .f32⟩
  | 42 => ⟨S1x256x224x16, .f32⟩
  | 43 => ⟨S_, .f32⟩
  | 44 => ⟨S1x256x224x16, .f32⟩
  | 45 => ⟨S1x256x224x16, .f32⟩
  | 46 => ⟨S1x256x224x16, .i32⟩
  | 47 => ⟨S1x256x3584, .i32⟩
  | 48 => ⟨S1x256x224, .i8⟩
  | 49 => ⟨S1x256x3584, .i32⟩
  | 50 => ⟨S_, .i32⟩
  | 51 => ⟨S1x256x3584, .i32⟩
  | 52 => ⟨S1x256x3584, .i1⟩
  | 53 => ⟨S1x256x3584, .i32⟩
  | 54 => ⟨S_, .i32⟩
  | 55 => ⟨S1x256x3584, .i32⟩
  | 56 => ⟨S1x256x3584, .i32⟩
  | 57 => ⟨S1x256x3584, .i32⟩
  | 58 => ⟨S1x256x3584, .i32⟩
  | 59 => ⟨S1x256x1792, .i32⟩
  | 60 => ⟨S1x256x1792, .i32⟩
  | 61 => ⟨S_, .i32⟩
  | 62 => ⟨S1x256x1792, .i32⟩
  | 63 => ⟨S1x256x1792, .i32⟩
  | 64 => ⟨S1x256x1792, .i32⟩
  | 65 => ⟨S1x256x1792, .i8⟩
  | 66 => ⟨S1x256x3584, .f32⟩
  | 67 => ⟨S1x256x3584, .bf16⟩
  | 68 => ⟨S1x256x224x16, .bf16⟩
  | 69 => ⟨S_, .f32⟩
  | 70 => ⟨S1x256x224, .f32⟩
  | 71 => ⟨S1x256x224, .i32⟩
  | 72 => ⟨S1x256x224, .f32⟩
  | 73 => ⟨S1x256x224, .f32⟩
  | 74 => ⟨S1x256x224, .bf16⟩
  | 75 => ⟨S1x256x224x1, .bf16⟩
  | 76 => ⟨S1x256x224x16, .bf16⟩
  | 77 => ⟨S1x256x224x16, .bf16⟩
  | 78 => ⟨S1x256x3584, .bf16⟩
  | 79 => ⟨S9472x3584, .i32⟩
  | 80 => ⟨S_, .i32⟩
  | 81 => ⟨S9472x3584, .i32⟩
  | 82 => ⟨S9472x3584, .i32⟩
  | 83 => ⟨S_, .i32⟩
  | 84 => ⟨S9472x3584, .i32⟩
  | 85 => ⟨S9472x3584, .i32⟩
  | 86 => ⟨S_, .i32⟩
  | 87 => ⟨S9472x3584, .i32⟩
  | 88 => ⟨S9472x3584, .i32⟩
  | 89 => ⟨S_, .i32⟩
  | 90 => ⟨S9472x3584, .i32⟩
  | 91 => ⟨S9472x3584, .i32⟩
  | 92 => ⟨S_, .i32⟩
  | 93 => ⟨S9472x3584, .i32⟩
  | 94 => ⟨S9472x3584, .i32⟩
  | 95 => ⟨S9472x3584, .i32⟩
  | 96 => ⟨S9472x224, .i8⟩
  | 97 => ⟨S9472x3584, .f32⟩
  | 98 => ⟨S9472x3584, .bf16⟩
  | 99 => ⟨S9472x224x16, .bf16⟩
  | 100 => ⟨S_, .f32⟩
  | 101 => ⟨S9472x224, .f32⟩
  | 102 => ⟨S9472x224, .i32⟩
  | 103 => ⟨S9472x224, .f32⟩
  | 104 => ⟨S9472x224, .f32⟩
  | 105 => ⟨S9472x224, .bf16⟩
  | 106 => ⟨S9472x224x1, .bf16⟩
  | 107 => ⟨S9472x224x16, .bf16⟩
  | 108 => ⟨S9472x224x16, .bf16⟩
  | 109 => ⟨S9472x3584, .bf16⟩
  | 110 => ⟨S_, .i32⟩
  | 111 => ⟨S9472x3584, .i32⟩
  | 112 => ⟨S9472x3584, .i32⟩
  | 113 => ⟨S_, .i32⟩
  | 114 => ⟨S9472x3584, .i32⟩
  | 115 => ⟨S9472x3584, .i32⟩
  | 116 => ⟨S_, .i32⟩
  | 117 => ⟨S9472x3584, .i32⟩
  | 118 => ⟨S9472x3584, .i32⟩
  | 119 => ⟨S_, .i32⟩
  | 120 => ⟨S9472x3584, .i32⟩
  | 121 => ⟨S9472x3584, .i32⟩
  | 122 => ⟨S_, .i32⟩
  | 123 => ⟨S9472x3584, .i32⟩
  | 124 => ⟨S9472x3584, .i32⟩
  | 125 => ⟨S9472x3584, .i32⟩
  | 126 => ⟨S9472x224, .i8⟩
  | 127 => ⟨S9472x3584, .f32⟩
  | _ => ⟨S1x256x3584, .bf16⟩

abbrev hbmTy0_1 (i : Nat) : BufTy := match i % 128 with
  | 0 => ⟨S9472x3584, .bf16⟩
  | 1 => ⟨S9472x224x16, .bf16⟩
  | 2 => ⟨S_, .f32⟩
  | 3 => ⟨S9472x224, .f32⟩
  | 4 => ⟨S9472x224, .i32⟩
  | 5 => ⟨S9472x224, .f32⟩
  | 6 => ⟨S9472x224, .f32⟩
  | 7 => ⟨S9472x224, .bf16⟩
  | 8 => ⟨S9472x224x1, .bf16⟩
  | 9 => ⟨S9472x224x16, .bf16⟩
  | 10 => ⟨S9472x224x16, .bf16⟩
  | 11 => ⟨S9472x3584, .bf16⟩
  | 12 => ⟨S1x256x9472, .f32⟩
  | 13 => ⟨S1x256x9472, .f32⟩
  | 14 => ⟨S1x256x18944, .f32⟩
  | 15 => ⟨S1x256x18944, .bf16⟩
  | _ => ⟨S1x256x3584, .bf16⟩

abbrev hbmTy (i : Nat) : BufTy := match i / 128 with
  | 0 => hbmTy0_0 i
  | 1 => hbmTy0_1 i
  | _ => ⟨S1x256x3584, .bf16⟩

abbrev bufTy : (tb : Table) → Fin (tcTables nBuf tb) → BufTy
  | .hbm, ⟨i, _⟩ => hbmTy i
  | _, _ => ⟨S1x256x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_c_7 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_17 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_c_19 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_c_21 : Ref sig .tc := ⟨.hbm, 119, rfl⟩
abbrev main_v86 : Ref sig .tc := ⟨.hbm, 120, rfl⟩
abbrev main_v87 : Ref sig .tc := ⟨.hbm, 121, rfl⟩
abbrev main_c_22 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_23 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩

abbrev nD : Nat := 1
abbrev τ : Topo := Topo.v7x

variable {F : FTy → Type} [FloatOps F]
-- ==== Proof.Blocks.lean ====
/-
  The kernel's arithmetic in named steps, at any float values: what one group of 128 lanes is quantised to, how the codes
  and exponents are packed, how one half byte of the weights is decoded, and the running sum of the products.
-/
module

public import proofs.«01_k».proof.Proof.Gen.KernelIdeal

@[expose] public section

noncomputable section

namespace Cert.KernelIdeal.Hand

open Idealize.ShloMosaic Idealize.ShloMosaic.TcCoe Idealize.SL.Sem Cert.KernelIdeal Cert.KernelIdeal.Gen

variable {F : FTy → Type} [FloatOps F]

/-! ## Lanes and gathers along them -/

/-- Each element's lane number. -/
def lane : IVec S256x128 32 := iota .tc S256x128 32 [1] iota_S256x128_d1_w32

/-- One word at every element of a group. -/
def word (b : BitVec 32) : IVec S256x128 32 := broadcast S256x128 b

/-- A gather's lane numbers as the gather takes them: a negative one counted from the end. -/
def lanes (i : IVec S256x128 32) : IVec S256x128 32 :=
  shapeCast S256x128 (shapeCast S256x128x1 (select (cmpi .slt i (word 0#32)) (addi i (word 128#32)) i)
    shapeCasts_S256x128_S256x128x1) shapeCasts_S256x128x1_S256x128

/-- The words of a group gathered along the lanes. -/
def gather (v i : IVec S256x128 32) : IVec S256x128 32 := dynamicGather 1 v (lanes i)

/-- The half-width floats of a group gathered along the lanes. -/
def gather16 (v : FVec F S256x128 .bf16) (i : IVec S256x128 32) : FVec F S256x128 .bf16 :=
  truncf .bf16 (dynamicGather 1 (extf .f32 v bitsLt_bf16_f32) (lanes i)) bitsLt_bf16_f32

/-- The lane number divided by `n`, rounded down, as the kernel computes it. -/
def laneDiv (n : BitVec 32) : IVec S256x128 32 :=
  select
    (andi
      (cmpi .ne
        (subi (extui 32 (cmpi .sgt lane (word 0#32)) natLt_1_32) (extui 32 (cmpi .slt lane (word 0#32)) natLt_1_32))
        (word (Scalar.subi (Scalar.extui (Scalar.cmpi .sgt n 0#32)) (Scalar.extui (Scalar.cmpi .slt n 0#32)))))
      (cmpi .ne (remsi lane (word n)) (word 0#32)))
    (subi (divsi lane (word n)) (word 1#32)) (divsi lane (word n))

/-! ## One group quantised -/

/-- One step of the block maximum: each lane against the lane whose number differs in the bit `s`. -/
def meet (s : BitVec 32) (m : FVec F S256x128 .bf16) : FVec F S256x128 .bf16 :=
  maximumf m (gather16 m (xori lane (word s)))

/-- At every lane the largest magnitude of its block of sixteen. -/
def blockMax (v : FVec F S256x128 .bf16) : FVec F S256x128 .bf16 := meet 8#32 (meet 4#32 (meet 2#32 (meet 1#32 (absf v))))

/-- The float whose exponent field is `e`. -/
def power (e : IVec S256x128 32) : FVec F S256x128 .f32 := bitcastToFloat .f32 (shli e (word 23#32))

/-- One step of the search for the exponent field: add `b` if the power stays at or below `m`. -/
def probe (m : FVec F S256x128 .f32) (b : BitVec 32) (e : IVec S256x128 32) : IVec S256x128 32 :=
  select (cmpf .olt m (power (addi e (word b)))) e (addi e (word b))

/-- The exponent field found. -/
def search (m : FVec F S256x128 .f32) : IVec S256x128 32 :=
  probe m 1#32 (probe m 2#32 (probe m 4#32 (probe m 8#32 (probe m 16#32 (probe m 32#32 (probe m 64#32
    (probe m 128#32 (word 0#32))))))))

/-- The exponent field of each lane's block, a block of zeros taken as one half's. -/
def expo (v : FVec F S256x128 .bf16) : IVec S256x128 32 :=
  select (cmpi .eq (search (extf .f32 (blockMax v) bitsLt_bf16_f32)) (word 0#32)) (word 126#32)
    (search (extf .f32 (blockMax v) bitsLt_bf16_f32))

/-- The codes: the group scaled by the reciprocal power, clamped to seven and rounded to nearest even. -/
def code (v : FVec F S256x128 .bf16) (e : IVec S256x128 32) : FVec F S256x128 .bf16 :=
  truncf .bf16 (roundeven (extf .f32 (minimumf (broadcast S256x128 (Scalar.ofBits .bf16 0x40E0#16))
    (maximumf (broadcast S256x128 (Scalar.ofBits .bf16 0xC0E0#16))
      (select (cmpf .oeq v (broadcast S256x128 (Scalar.ofBits .bf16 0x0000#16))) (broadcast S256x128 (Scalar.ofBits .bf16 0x0000#16))
        (mulf v (truncf .bf16 (power (subi (word 256#32) e)) bitsLt_bf16_f32))))) bitsLt_bf16_f32)) bitsLt_bf16_f32

/-- The operand of the product: the codes times a quarter of the power. -/
def operand (v : FVec F S256x128 .bf16) (e : IVec S256x128 32) : FVec F S256x128 .bf16 :=
  mulf (code v e) (mulf (truncf .bf16 (power e) bitsLt_bf16_f32) (broadcast S256x128 (Scalar.ofBits .bf16 0x3E80#16)))

/-- A code as four bits: its magnitude, and eight more if it is negative. -/
def nibble (c : FVec F S256x128 .bf16) : IVec S256x128 32 :=
  addi (absi (fptosi 32 c)) (select (cmpi .slt (fptosi 32 c) (word 0#32)) (word 8#32) (word 0#32))

/-- Each lane's four bits with the next lane's above them. -/
def pair (n : IVec S256x128 32) : IVec S256x128 32 :=
  ori n (shli (dynamicRotate 1 127#32 none n rotates_S256x128_d1) (word 4#32))

/-- The pairs of the even lanes, twice over. -/
def halves (v : FVec F S256x128 .bf16) (e : IVec S256x128 32) : IVec S256x128 32 :=
  gather (pair (nibble (code v e))) (andi (muli lane (word 2#32)) (word 127#32))

/-- Two groups' bytes in one row of lanes. -/
def bytes (a b : IVec S256x128 32) : IVec S256x128 8 := trunci 8 (select (cmpi .slt lane (word 64#32)) a b) natLt_8_32

/-- The block exponents of the group, eight of them, over and over. -/
def exps (e : IVec S256x128 32) : IVec S256x128 32 :=
  gather (subi e (word 129#32)) (muli (andi lane (word 7#32)) (word 16#32))

/-- Group `k`'s eight exponents put in their place. -/
def place (k : BitVec 32) (acc x : IVec S256x128 32) : IVec S256x128 32 := select (cmpi .eq (laneDiv 8#32) (word k)) x acc

/-! ## The weights -/

/-- A block scale as a float: 2 to the exponent plus nine. -/
def scale (e : Vec F S256x224 .i8) : FVec F S256x224 .bf16 :=
  truncf .bf16 (bitcastToFloat .f32 (shli (maxsi (addi (extsi 32 e natLt_8_32) (broadcast S256x224 136#32))
    (broadcast S256x224 0#32)) (broadcast S256x224 23#32))) bitsLt_bf16_f32

/-- The first 128 scales of each row. -/
def scaleLo (e : Vec F S256x224 .i8) : FVec F S1x256x128 .bf16 :=
  shapeCast S1x256x128 (extractStridedSlice S256x128 ![0, 0] (scale e) slices_S256x224_o0_0_S256x128) shapeCasts_S256x128_S1x256x128

/-- The last 96 scales of each row. -/
def scaleHi (e : Vec F S256x224 .i8) : FVec F S1x256x96 .bf16 :=
  shapeCast S1x256x96 (extractStridedSlice S256x96 ![0, 128] (scale e) slices_S256x224_o0_128_S256x96) shapeCasts_S256x96_S1x256x96

/-- Four bytes in a word. -/
def words (w : Vec F S256x128 .i8) : IVec S64x128 32 := bitcast S64x128 32 w bitcasts_S256x128_w8_S64x128_w32

/-- The low half of each byte, moved to where a small float keeps its sign and its last bits. -/
def lowBits (w : IVec S64x128 32) : IVec S64x128 32 :=
  ori (andi w (broadcast S64x128 117901063#32)) (andi (shli w (broadcast S64x128 4#32)) (broadcast S64x128 2155905152#32))

/-- The high half of each byte, the same. -/
def highBits (w : IVec S64x128 32) : IVec S64x128 32 :=
  ori (andi (shrui w (broadcast S64x128 4#32)) (broadcast S64x128 117901063#32)) (andi w (broadcast S64x128 2155905152#32))

/-- The weights those bits stand for, scaled by the block scales `s`, the group's first at lane `k`. -/
def decode (q : IVec S64x128 32) (k : BitVec 32) (s : Vec F S1x256x128 .bf16) : FVec F S256x128 .bf16 :=
  mulf (extf .bf16 (bitcastToFloat .fp8e4m3 (bitcast S256x128 8 q bitcasts_S64x128_w32_S256x128_w8)) bitsLt_fp8e4m3_bf16)
    (gather16 (shapeCast S256x128 s shapeCasts_S1x256x128_S256x128) (addi (laneDiv 16#32) (word k)))

/-- One more tile of 256 columns added to the sum. -/
def tile (acc : FVec F S256x256 .f32) (x : Vec F S256x256 .bf16) (a b : FVec F S256x128 .bf16) : FVec F S256x256 .f32 :=
  addf acc (matmul dot_S256x256_S256x256_S256x256_1_1_0_0_n_n none x
    (concatenate S256x256 1 [⟨S256x128, a⟩, ⟨S256x128, b⟩] concatenates_S256x128_S256x128_S256x256_d1)
    (constant S256x256 .f32 0x00000000#32))

/-- The empty sum. -/
def none₀ : FVec F S256x256 .f32 := broadcast S256x256 (Scalar.ofBits .f32 0x00000000#32)

/-- The sum as it is stored. -/
def stored (acc : FVec F S256x256 .f32) : FVec F S256x256 .bf16 := truncf .bf16 acc bitsLt_bf16_f32

end Cert.KernelIdeal.Hand

end
-- ==== Proof.Body.lean ====
/-
  The kernel's body as a program over the named steps of `Blocks`, and that the printed body is this program.
-/
module

public import proofs.«01_k».proof.Proof.Blocks
public import Idealize.ShloMosaic.Lib.Tactic

@[expose] public section

set_option synthInstance.maxSize 4096

noncomputable section

namespace Cert.KernelIdeal.Hand

open Idealize.ShloMosaic Idealize.ShloMosaic.TcCoe Idealize.SL.Sem Cert.KernelIdeal Cert.KernelIdeal.Gen

variable {F : FTy → Type} [FloatOps F]

/-- A loaded group. -/
def group (x : Vec F S256x128 .bf16) : FVec F S256x128 .bf16 := shapeCast S256x128 x shapeCasts_S256x128_S256x128
/-- The operand stored for a loaded group. -/
def operandOf (x : Vec F S256x128 .bf16) : FVec F S256x128 .bf16 :=
  shapeCast S256x128 (operand (group x) (expo (group x))) shapeCasts_S256x128_S256x128
/-- The bytes stored for two loaded groups. -/
def bytesOf (x y : Vec F S256x128 .bf16) : IVec S256x128 8 :=
  bytes (halves (group x) (expo (group x))) (halves (group y) (expo (group y)))
/-- The block exponents of a loaded group. -/
def expsOf (x : Vec F S256x128 .bf16) : IVec S256x128 32 := exps (expo (group x))
/-- Group after group put in its place. -/
def placed (acc : IVec S256x128 32) : List (BitVec 32 × Vec F S256x128 .bf16) → IVec S256x128 32
  | [] => acc
  | p :: L => placed (place p.1 acc (expsOf p.2)) L
/-- The exponents of sixteen groups as they are stored. -/
def expsLo (acc : IVec S256x128 32) : IVec S256x128 8 := trunci 8 acc natLt_8_32
/-- The exponents of the last twelve. -/
def expsHi (acc : IVec S256x128 32) : IVec S256x96 8 :=
  trunci 8 (extractStridedSlice S256x96 ![0, 0] acc slices_S256x128_o0_0_S256x96) natLt_8_32
/-- The last 96 of a row's scales. -/
def scaleRest (v : FVec F S256x224 .bf16) : FVec F S1x256x96 .bf16 :=
  shapeCast S1x256x96 (extractStridedSlice S256x96 ![0, 128] v slices_S256x224_o0_128_S256x96) shapeCasts_S256x96_S1x256x96

/-- The input quantised: what the first grid point does first. -/
def quant (i : grid0.Coords) (arg1 : Memref sig .tc .vmem S256x3584 .bf16) (harg1 : arg1.IsWhole) (arg2 : Memref sig .tc .vmem S256x3584 .i8) (harg2 : arg2.IsWhole) (arg3 : Memref sig .tc .vmem S256x224 .i8) (harg3 : arg3.IsWhole) (arg4 : Memref sig .tc .vmem S256x224 .i8) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (arg10 : Memref sig .tc .vmem S2x256x256 .bf16) (harg10 : arg10.IsWhole) : Prog (TpuEff nD τ sig (Elt F) Λ₀ .tc) PUnit := do
  let x0 : Vec F S256x128 .bf16 ← Prog.lift (.load arg1 (Rect.unit (s := S256x3584) ![0, 0] S256x128.size inb_S256x3584_S256x128_0_0).toLoadRect (View.loadsAt_vmem h_S256x128))
  let _ : Vec F S256x128 .bf16 ← Prog.lift (.load arg9 (Rect.unit (s := S256x3584) ![0, 0] S256x128.size inb_S256x3584_S256x128_0_0).toLoadRect (View.loadsAt_vmem h_S256x128))
  Prog.lift (.store arg9 (Rect.unit (s := S256x3584) ![0, 0] S256x128.size inb_S256x3584_S256x128_0_0) (operandOf x0) Finset.univ (View.stores_vmem h_S256x128 (harg9.storeExact_slice rfl _ packedbf16_S256x3584_S256x128_0_0) (fun _ => rfl)) (.inl rfl))
  let x1 : Vec F S256x128 .bf16 ← Prog.lift (.load arg1 (Rect.unit (s := S256x3584) ![0, 128] S256x128.size inb_S256x3584_S256x128_0_128).toLoadRect (View.loadsAt_vmem h_S256x128))
  let _ : Vec F S256x128 .bf16 ← Prog.lift (.load arg9 (Rect.unit (s := S256x3584) ![0, 128] S256x128.size inb_S256x3584_S256x128_0_128).toLoadRect (View.loadsAt_vmem h_S256x128))
  Prog.lift (.store arg9 (Rect.unit (s := S256x3584) ![0, 128] S256x128.size inb_S256x3584_S256x128_0_128) (operandOf x1) Finset.univ (View.stores_vmem h_S256x128 (harg9.storeExact_slice rfl _ packedbf16_S256x3584_S256x128_0_128) (fun _ => rfl)) (.inl rfl))
  let _ : Vec F S256x128 .i8 ← Prog.lift (.load arg7 (Rect.unit (s := S256x1792) ![0, 0] S256x128.size inb_S256x1792_S256x128_0_0).toLoadRect (View.loadsAt_vmem h_S256x128))
  Prog.lift (.store arg7 (Rect.unit (s := S256x1792) ![0, 0] S256x128.size inb_S256x1792_S256x128_0_0) (bytesOf x0 x1) Finset.univ (View.stores_vmem h_S256x128 (harg7.storeExact_slice rfl _ packedi8_S256x1792_S256x128_0_0) (fun _ => rfl)) (.inl rfl))
  let x2 : Vec F S256x128 .bf16 ← Prog.lift (.load arg1 (Rect.unit (s := S256x3584) ![0, 256] S256x128.size inb_S256x3584_S256x128_0_256).toLoadRect (View.loadsAt_vmem h_S256x128))
  let _ : Vec F S256x128 .bf16 ← Prog.lift (.load arg9 (Rect.unit (s := S256x3584) ![0, 256] S256x128.size inb_S256x3584_S256x128_0_256).toLoadRect (View.loadsAt_vmem h_S256x128))
  Prog.lift (.store arg9 (Rect.unit (s := S256x3584) ![0, 256] S256x128.size inb_S256x3584_S256x128_0_256) (operandOf x2) Finset.univ (View.stores_vmem h_S256x128 (harg9.storeExact_slice rfl _ packedbf16_S256x3584_S256x128_0_256) (fun _ => rfl)) (.inl rfl))
  let x3 : Vec F S256x128 .bf16 ← Prog.lift (.load arg1 (Rect.unit (s := S256x3584) ![0, 384] S256x128.size inb_S256x3584_S256x128_0_384).toLoadRect (View.loadsAt_vmem h_S256x128))
  let _ : Vec F S256x128 .bf16 ← Prog.lift (.load arg9 (Rect.unit (s := S256x3584) ![0, 384] S256x128.size inb_S256x3584_S256x128_0_384).toLoadRect (View.loadsAt_vmem h_S256x128))
  Prog.lift (.store arg9 (Rect.unit (s := S256x3584) ![0, 384] S256x128.size inb_S256x3584_S256x128_0_384) (operandOf x3) Finset.univ (View.stores_vmem h_S256x128 (harg9.storeExact_slice rfl _ packedbf16_S256x3584_S256x128_0_384) (fun _ => rfl)) (.inl rfl))
  let _ : Vec F S256x128 .i8 ← Prog.lift (.load arg7 (Rect.unit (s := S256x1792) ![0, 128] S256x128.size inb_S256x1792_S256x128_0_128).toLoadRect (View.loadsAt_vmem h_S256x128))
  Prog.lift (.store arg7 (Rect.unit (s := S256x1792) ![0, 128] S256x128.size inb_S256x1792_S256x128_0_128) (bytesOf x2 x3) Finset.univ (View.stores_vmem h_S256x128 (harg7.storeExact_slice rfl _ packedi8_S256x1792_S256x128_0_128) (fun _ => rfl)) (.inl rfl))
  let x4 : Vec F S256x128 .bf16 ← Prog.lift (.load arg1 (Rect.unit (s := S256x3584) ![0, 512] S256x128.size inb_S256x3584_S256x128_0_512).toLoadRect (View.loadsAt_vmem h_S256x128))
  let _ : Vec F S256x128 .bf16 ← Prog.lift (.load arg9 (Rect.unit (s := S256x3584) ![0, 512] S256x128.size inb_S256x3584_S256x128_0_512).toLoadRect (View.loadsAt_vmem h_S256x128))
  Prog.lift (.store arg9 (Rect.unit (s := S256x3584) ![0, 512] S256x128.size inb_S256x3584_S256x128_0_512) (operandOf x4) Finset.univ (View.stores_vmem h_S256x128 (harg9.storeExact_slice rfl _ packedbf16_S256x3584_S256x128_0_512) (fun _ => rfl)) (.inl rfl))
  let x5 : Vec F S256x128 .bf16 ← Prog.lift (.load arg1 (Rect.unit (s := S256x3584) ![0, 640] S256x128.size inb_S256x3584_S256x128_0_640).toLoadRect (View.loadsAt_vmem h_S256x128))
  let _ : Vec F S256x128 .bf16 ← Prog.lift (.load arg9 (Rect.unit (s := S256x3584) ![0, 640] S256x128.size inb_S256x3584_S256x128_0_640).toLoadRect (View.loadsAt_vmem h_S256x128))
  Prog.lift (.store arg9 (Rect.unit (s := S256x3584) ![0, 640] S256x128.size inb_S256x3584_S256x128_0_640) (operandOf x5) Finset.univ (View.stores_vmem h_S256x128 (harg9.storeExact_slice rfl _ packedbf16_S256x3584_S256x128_0_640) (fun _ => rfl)) (.inl rfl))
  let _ : Vec F S256x128 .i8 ← Prog.lift (.load arg7 (Rect.unit (s := S256x1792) ![0, 256] S256x128.size inb_S256x1792_S256x128_0_256).toLoadRect (View.loadsAt_vmem h_S256x128))
  Prog.lift (.store arg7 (Rect.unit (s := S256x1792) ![0, 256] S256x128.size inb_S256x1792_S256x128_0_256) (bytesOf x4 x5) Finset.univ (View.stores_vmem h_S256x128 (harg7.storeExact_slice rfl _ packedi8_S256x1792_S256x128_0_256) (fun _ => rfl)) (.inl rfl))
  let x6 : Vec F S256x128 .bf16 ← Prog.lift (.load arg1 (Rect.unit (s := S256x3584) ![0, 768] S256x128.size inb_S256x3584_S256x128_0_768).toLoadRect (View.loadsAt_vmem h_S256x128))
  let _ : Vec F S256x128 .bf16 ← Prog.lift (.load arg9 (Rect.unit (s := S256x3584) ![0, 768] S256x128.size inb_S256x3584_S256x128_0_768).toLoadRect (View.loadsAt_vmem h_S256x128))
  Prog.lift (.store arg9 (Rect.unit (s := S256x3584) ![0, 768] S256x128.size inb_S256x3584_S256x128_0_768) (operandOf x6) Finset.univ (View.stores_vmem h_S256x128 (harg9.storeExact_slice rfl _ packedbf16_S256x3584_S256x128_0_768) (fun _ => rfl)) (.inl rfl))
  let x7 : Vec F S256x128 .bf16 ← Prog.lift (.load arg1 (Rect.unit (s := S256x3584) ![0, 896] S256x128.size inb_S256x3584_S256x128_0_896).toLoadRect (View.loadsAt_vmem h_S256x128))
  let _ : Vec F S256x128 .bf16 ← Prog.lift (.load arg9 (Rect.unit (s := S256x3584) ![0, 896] S256x128.size inb_S256x3584_S256x128_0_896).toLoadRect (View.loadsAt_vmem h_S256x128))
  Prog.lift (.store arg9 (Rect.unit (s := S256x3584) ![0, 896] S256x128.size inb_S256x3584_S256x128_0_896) (operandOf x7) Finset.univ (View.stores_vmem h_S256x128 (harg9.storeExact_slice rfl _ packedbf16_S256x3584_S256x128_0_896) (fun _ => rfl)) (.inl rfl))
  let _ : Vec F S256x128 .i8 ← Prog.lift (.load arg7 (Rect.unit (s := S256x1792) ![0, 384] S256x128.size inb_S256x1792_S256x128_0_384).toLoadRect (View.loadsAt_vmem h_S256x128))
  Prog.lift (.store arg7 (Rect.unit (s := S256x1792) ![0, 384] S256x128.size inb_S256x1792_S256x128_0_384) (bytesOf x6 x7) Finset.univ (View.stores_vmem h_S256x128 (harg7.storeExact_slice rfl _ packedi8_S256x1792_S256x128_0_384) (fun _ => rfl)) (.inl rfl))
  let x8 : Vec F S256x128 .bf16 ← Prog.lift (.load arg1 (Rect.unit (s := S256x3584) ![0, 1024] S256x128.size inb_S256x3584_S256x128_0_1024).toLoadRect (View.loadsAt_vmem h_S256x128))
  let _ : Vec F S256x128 .bf16 ← Prog.lift (.load arg9 (Rect.unit (s := S256x3584) ![0, 1024] S256x128.size inb_S256x3584_S256x128_0_1024).toLoadRect (View.loadsAt_vmem h_S256x128))
  Prog.lift (.store arg9 (Rect.unit (s := S256x3584) ![0, 1024] S256x128.size inb_S256x3584_S256x128_0_1024) (operandOf x8) Finset.univ (View.stores_vmem h_S256x128 (harg9.storeExact_slice rfl _ packedbf16_S256x3584_S256x128_0_1024) (fun _ => rfl)) (.inl rfl))
  let x9 : Vec F S256x128 .bf16 ← Prog.lift (.load arg1 (Rect.unit (s := S256x3584) ![0, 1152] S256x128.size inb_S256x3584_S256x128_0_1152).toLoadRect (View.loadsAt_vmem h_S256x128))
  let _ : Vec F S256x128 .bf16 ← Prog.lift (.load arg9 (Rect.unit (s := S256x3584) ![0, 1152] S256x128.size inb_S256x3584_S256x128_0_1152).toLoadRect (View.loadsAt_vmem h_S256x128))
  Prog.lift (.store arg9 (Rect.unit (s := S256x3584) ![0, 1152] S256x128.size inb_S256x3584_S256x128_0_1152) (operandOf x9) Finset.univ (View.stores_vmem h_S256x128 (harg9.storeExact_slice rfl _ packedbf16_S256x3584_S256x128_0_1152) (fun _ => rfl)) (.inl rfl))
  let _ : Vec F S256x128 .i8 ← Prog.lift (.load arg7 (Rect.unit (s := S256x1792) ![0, 512] S256x128.size inb_S256x1792_S256x128_0_512).toLoadRect (View.loadsAt_vmem h_S256x128))
  Prog.lift (.store arg7 (Rect.unit (s := S256x1792) ![0, 512] S256x128.size inb_S256x1792_S256x128_0_512) (bytesOf x8 x9) Finset.univ (View.stores_vmem h_S256x128 (harg7.storeExact_slice rfl _ packedi8_S256x1792_S256x128_0_512) (fun _ => rfl)) (.inl rfl))
  let x10 : Vec F S256x128 .bf16 ← Prog.lift (.load arg1 (Rect.unit (s := S256x3584) ![0, 1280] S256x128.size inb_S256x3584_S256x128_0_1280).toLoadRect (View.loadsAt_vmem h_S256x128))
  let _ : Vec F S256x128 .bf16 ← Prog.lift (.load arg9 (Rect.unit (s := S256x3584) ![0, 1280] S256x128.size inb_S256x3584_S256x128_0_1280).toLoadRect (View.loadsAt_vmem h_S256x128))
  Prog.lift (.store arg9 (Rect.unit (s := S256x3584) ![0, 1280] S256x128.size inb_S256x3584_S256x128_0_1280) (operandOf x10) Finset.univ (View.stores_vmem h_S256x128 (harg9.storeExact_slice rfl _ packedbf16_S256x3584_S256x128_0_1280) (fun _ => rfl)) (.inl rfl))
  let x11 : Vec F S256x128 .bf16 ← Prog.lift (.load arg1 (Rect.unit (s := S256x3584) ![0, 1408] S256x128.size inb_S256x3584_S256x128_0_1408).toLoadRect (View.loadsAt_vmem h_S256x128))
  let _ : Vec F S256x128 .bf16 ← Prog.lift (.load arg9 (Rect.unit (s := S256x3584) ![0, 1408] S256x128.size inb_S256x3584_S256x128_0_1408).toLoadRect (View.loadsAt_vmem h_S256x128))
  Prog.lift (.store arg9 (Rect.unit (s := S256x3584) ![0, 1408] S256x128.size inb_S256x3584_S256x128_0_1408) (operandOf x11) Finset.univ (View.stores_vmem h_S256x128 (harg9.storeExact_slice rfl _ packedbf16_S256x3584_S256x128_0_1408) (fun _ => rfl)) (.inl rfl))
  let _ : Vec F S256x128 .i8 ← Prog.lift (.load arg7 (Rect.unit (s := S256x1792) ![0, 640] S256x128.size inb_S256x1792_S256x128_0_640).toLoadRect (View.loadsAt_vmem h_S256x128))
  Prog.lift (.store arg7 (Rect.unit (s := S256x1792) ![0, 640] S256x128.size inb_S256x1792_S256x128_0_640) (bytesOf x10 x11) Finset.univ (View.stores_vmem h_S256x128 (harg7.storeExact_slice rfl _ packedi8_S256x1792_S256x128_0_640) (fun _ => rfl)) (.inl rfl))
  let x12 : Vec F S256x128 .bf16 ← Prog.lift (.load arg1 (Rect.unit (s := S256x3584) ![0, 1536] S256x128.size inb_S256x3584_S256x128_0_1536).toLoadRect (View.loadsAt_vmem h_S256x128))
  let _ : Vec F S256x128 .bf16 ← Prog.lift (.load arg9 (Rect.unit (s := S256x3584) ![0, 1536] S256x128.size inb_S256x3584_S256x128_0_1536).toLoadRect (View.loadsAt_vmem h_S256x128))
  Prog.lift (.store arg9 (Rect.unit (s := S256x3584) ![0, 1536] S256x128.size inb_S256x3584_S256x128_0_1536) (operandOf x12) Finset.univ (View.stores_vmem h_S256x128 (harg9.storeExact_slice rfl _ packedbf16_S256x3584_S256x128_0_1536) (fun _ => rfl)) (.inl rfl))
  let x13 : Vec F S256x128 .bf16 ← Prog.lift (.load arg1 (Rect.unit (s := S256x3584) ![0, 1664] S256x128.size inb_S256x3584_S256x128_0_1664).toLoadRect (View.loadsAt_vmem h_S256x128))
  let _ : Vec F S256x128 .bf16 ← Prog.lift (.load arg9 (Rect.unit (s := S256x3584) ![0, 1664] S256x128.size inb_S256x3584_S256x128_0_1664).toLoadRect (View.loadsAt_vmem h_S256x128))
  Prog.lift (.store arg9 (Rect.unit (s := S256x3584) ![0, 1664] S256x128.size inb_S256x3584_S256x128_0_1664) (operandOf x13) Finset.univ (View.stores_vmem h_S256x128 (harg9.storeExact_slice rfl _ packedbf16_S256x3584_S256x128_0_1664) (fun _ => rfl)) (.inl rfl))
  let _ : Vec F S256x128 .i8 ← Prog.lift (.load arg7 (Rect.unit (s := S256x1792) ![0, 768] S256x128.size inb_S256x1792_S256x128_0_768).toLoadRect (View.loadsAt_vmem h_S256x128))
  Prog.lift (.store arg7 (Rect.unit (s := S256x1792) ![0, 768] S256x128.size inb_S256x1792_S256x128_0_768) (bytesOf x12 x13) Finset.univ (View.stores_vmem h_S256x128 (harg7.storeExact_slice rfl _ packedi8_S256x1792_S256x128_0_768) (fun _ => rfl)) (.inl rfl))
  let x14 : Vec F S256x128 .bf16 ← Prog.lift (.load arg1 (Rect.unit (s := S256x3584) ![0, 1792] S256x128.size inb_S256x3584_S256x128_0_1792).toLoadRect (View.loadsAt_vmem h_S256x128))
  let _ : Vec F S256x128 .bf16 ← Prog.lift (.load arg9 (Rect.unit (s := S256x3584) ![0, 1792] S256x128.size inb_S256x3584_S256x128_0_1792).toLoadRect (View.loadsAt_vmem h_S256x128))
  Prog.lift (.store arg9 (Rect.unit (s := S256x3584) ![0, 1792] S256x128.size inb_S256x3584_S256x128_0_1792) (operandOf x14) Finset.univ (View.stores_vmem h_S256x128 (harg9.storeExact_slice rfl _ packedbf16_S256x3584_S256x128_0_1792) (fun _ => rfl)) (.inl rfl))
  let x15 : Vec F S256x128 .bf16 ← Prog.lift (.load arg1 (Rect.unit (s := S256x3584) ![0, 1920] S256x128.size inb_S256x3584_S256x128_0_1920).toLoadRect (View.loadsAt_vmem h_S256x128))
  let _ : Vec F S256x128 .bf16 ← Prog.lift (.load arg9 (Rect.unit (s := S256x3584) ![0, 1920] S256x128.size inb_S256x3584_S256x128_0_1920).toLoadRect (View.loadsAt_vmem h_S256x128))
  Prog.lift (.store arg9 (Rect.unit (s := S256x3584) ![0, 1920] S256x128.size inb_S256x3584_S256x128_0_1920) (operandOf x15) Finset.univ (View.stores_vmem h_S256x128 (harg9.storeExact_slice rfl _ packedbf16_S256x3584_S256x128_0_1920) (fun _ => rfl)) (.inl rfl))
  let _ : Vec F S256x128 .i8 ← Prog.lift (.load arg7 (Rect.unit (s := S256x1792) ![0, 896] S256x128.size inb_S256x1792_S256x128_0_896).toLoadRect (View.loadsAt_vmem h_S256x128))
  Prog.lift (.store arg7 (Rect.unit (s := S256x1792) ![0, 896] S256x128.size inb_S256x1792_S256x128_0_896) (bytesOf x14 x15) Finset.univ (View.stores_vmem h_S256x128 (harg7.storeExact_slice rfl _ packedi8_S256x1792_S256x128_0_896) (fun _ => rfl)) (.inl rfl))
  let _ : Vec F S256x128 .i8 ← Prog.lift (.load arg8 (Rect.unit (s := S256x224) ![0, 0] S256x128.size inb_S256x224_S256x128_0_0).toLoadRect (View.loadsAt_vmem h_S256x128))
  Prog.lift (.store arg8 (Rect.unit (s := S256x224) ![0, 0] S256x128.size inb_S256x224_S256x128_0_0) (expsLo (placed (expsOf x0) [(1#32, x1), (2#32, x2), (3#32, x3), (4#32, x4), (5#32, x5), (6#32, x6), (7#32, x7), (8#32, x8), (9#32, x9), (10#32, x10), (11#32, x11), (12#32, x12), (13#32, x13), (14#32, x14), (15#32, x15)])) Finset.univ (View.stores_vmem h_S256x128 (harg8.storeExact_slice rfl _ packedi8_S256x224_S256x128_0_0) (fun _ => rfl)) (.inl rfl))
  let x16 : Vec F S256x128 .bf16 ← Prog.lift (.load arg1 (Rect.unit (s := S256x3584) ![0, 2048] S256x128.size inb_S256x3584_S256x128_0_2048).toLoadRect (View.loadsAt_vmem h_S256x128))
  let _ : Vec F S256x128 .bf16 ← Prog.lift (.load arg9 (Rect.unit (s := S256x3584) ![0, 2048] S256x128.size inb_S256x3584_S256x128_0_2048).toLoadRect (View.loadsAt_vmem h_S256x128))
  Prog.lift (.store arg9 (Rect.unit (s := S256x3584) ![0, 2048] S256x128.size inb_S256x3584_S256x128_0_2048) (operandOf x16) Finset.univ (View.stores_vmem h_S256x128 (harg9.storeExact_slice rfl _ packedbf16_S256x3584_S256x128_0_2048) (fun _ => rfl)) (.inl rfl))
  let x17 : Vec F S256x128 .bf16 ← Prog.lift (.load arg1 (Rect.unit (s := S256x3584) ![0, 2176] S256x128.size inb_S256x3584_S256x128_0_2176).toLoadRect (View.loadsAt_vmem h_S256x128))
  let _ : Vec F S256x128 .bf16 ← Prog.lift (.load arg9 (Rect.unit (s := S256x3584) ![0, 2176] S256x128.size inb_S256x3584_S256x128_0_2176).toLoadRect (View.loadsAt_vmem h_S256x128))
  Prog.lift (.store arg9 (Rect.unit (s := S256x3584) ![0, 2176] S256x128.size inb_S256x3584_S256x128_0_2176) (operandOf x17) Finset.univ (View.stores_vmem h_S256x128 (harg9.storeExact_slice rfl _ packedbf16_S256x3584_S256x128_0_2176) (fun _ => rfl)) (.inl rfl))
  let _ : Vec F S256x128 .i8 ← Prog.lift (.load arg7 (Rect.unit (s := S256x1792) ![0, 1024] S256x128.size inb_S256x1792_S256x128_0_1024).toLoadRect (View.loadsAt_vmem h_S256x128))
  Prog.lift (.store arg7 (Rect.unit (s := S256x1792) ![0, 1024] S256x128.size inb_S256x1792_S256x128_0_1024) (bytesOf x16 x17) Finset.univ (View.stores_vmem h_S256x128 (harg7.storeExact_slice rfl _ packedi8_S256x1792_S256x128_0_1024) (fun _ => rfl)) (.inl rfl))
  let x18 : Vec F S256x128 .bf16 ← Prog.lift (.load arg1 (Rect.unit (s := S256x3584) ![0, 2304] S256x128.size inb_S256x3584_S256x128_0_2304).toLoadRect (View.loadsAt_vmem h_S256x128))
  let _ : Vec F S256x128 .bf16 ← Prog.lift (.load arg9 (Rect.unit (s := S256x3584) ![0, 2304] S256x128.size inb_S256x3584_S256x128_0_2304).toLoadRect (View.loadsAt_vmem h_S256x128))
  Prog.lift (.store arg9 (Rect.unit (s := S256x3584) ![0, 2304] S256x128.size inb_S256x3584_S256x128_0_2304) (operandOf x18) Finset.univ (View.stores_vmem h_S256x128 (harg9.storeExact_slice rfl _ packedbf16_S256x3584_S256x128_0_2304) (fun _ => rfl)) (.inl rfl))
  let x19 : Vec F S256x128 .bf16 ← Prog.lift (.load arg1 (Rect.unit (s := S256x3584) ![0, 2432] S256x128.size inb_S256x3584_S256x128_0_2432).toLoadRect (View.loadsAt_vmem h_S256x128))
  let _ : Vec F S256x128 .bf16 ← Prog.lift (.load arg9 (Rect.unit (s := S256x3584) ![0, 2432] S256x128.size inb_S256x3584_S256x128_0_2432).toLoadRect (View.loadsAt_vmem h_S256x128))
  Prog.lift (.store arg9 (Rect.unit (s := S256x3584) ![0, 2432] S256x128.size inb_S256x3584_S256x128_0_2432) (operandOf x19) Finset.univ (View.stores_vmem h_S256x128 (harg9.storeExact_slice rfl _ packedbf16_S256x3584_S256x128_0_2432) (fun _ => rfl)) (.inl rfl))
  let _ : Vec F S256x128 .i8 ← Prog.lift (.load arg7 (Rect.unit (s := S256x1792) ![0, 1152] S256x128.size inb_S256x1792_S256x128_0_1152).toLoadRect (View.loadsAt_vmem h_S256x128))
  Prog.lift (.store arg7 (Rect.unit (s := S256x1792) ![0, 1152] S256x128.size inb_S256x1792_S256x128_0_1152) (bytesOf x18 x19) Finset.univ (View.stores_vmem h_S256x128 (harg7.storeExact_slice rfl _ packedi8_S256x1792_S256x128_0_1152) (fun _ => rfl)) (.inl rfl))
  let x20 : Vec F S256x128 .bf16 ← Prog.lift (.load arg1 (Rect.unit (s := S256x3584) ![0, 2560] S256x128.size inb_S256x3584_S256x128_0_2560).toLoadRect (View.loadsAt_vmem h_S256x128))
  let _ : Vec F S256x128 .bf16 ← Prog.lift (.load arg9 (Rect.unit (s := S256x3584) ![0, 2560] S256x128.size inb_S256x3584_S256x128_0_2560).toLoadRect (View.loadsAt_vmem h_S256x128))
  Prog.lift (.store arg9 (Rect.unit (s := S256x3584) ![0, 2560] S256x128.size inb_S256x3584_S256x128_0_2560) (operandOf x20) Finset.univ (View.stores_vmem h_S256x128 (harg9.storeExact_slice rfl _ packedbf16_S256x3584_S256x128_0_2560) (fun _ => rfl)) (.inl rfl))
  let x21 : Vec F S256x128 .bf16 ← Prog.lift (.load arg1 (Rect.unit (s := S256x3584) ![0, 2688] S256x128.size inb_S256x3584_S256x128_0_2688).toLoadRect (View.loadsAt_vmem h_S256x128))
  let _ : Vec F S256x128 .bf16 ← Prog.lift (.load arg9 (Rect.unit (s := S256x3584) ![0, 2688] S256x128.size inb_S256x3584_S256x128_0_2688).toLoadRect (View.loadsAt_vmem h_S256x128))
  Prog.lift (.store arg9 (Rect.unit (s := S256x3584) ![0, 2688] S256x128.size inb_S256x3584_S256x128_0_2688) (operandOf x21) Finset.univ (View.stores_vmem h_S256x128 (harg9.storeExact_slice rfl _ packedbf16_S256x3584_S256x128_0_2688) (fun _ => rfl)) (.inl rfl))
  let _ : Vec F S256x128 .i8 ← Prog.lift (.load arg7 (Rect.unit (s := S256x1792) ![0, 1280] S256x128.size inb_S256x1792_S256x128_0_1280).toLoadRect (View.loadsAt_vmem h_S256x128))
  Prog.lift (.store arg7 (Rect.unit (s := S256x1792) ![0, 1280] S256x128.size inb_S256x1792_S256x128_0_1280) (bytesOf x20 x21) Finset.univ (View.stores_vmem h_S256x128 (harg7.storeExact_slice rfl _ packedi8_S256x1792_S256x128_0_1280) (fun _ => rfl)) (.inl rfl))
  let x22 : Vec F S256x128 .bf16 ← Prog.lift (.load arg1 (Rect.unit (s := S256x3584) ![0, 2816] S256x128.size inb_S256x3584_S256x128_0_2816).toLoadRect (View.loadsAt_vmem h_S256x128))
  let _ : Vec F S256x128 .bf16 ← Prog.lift (.load arg9 (Rect.unit (s := S256x3584) ![0, 2816] S256x128.size inb_S256x3584_S256x128_0_2816).toLoadRect (View.loadsAt_vmem h_S256x128))
  Prog.lift (.store arg9 (Rect.unit (s := S256x3584) ![0, 2816] S256x128.size inb_S256x3584_S256x128_0_2816) (operandOf x22) Finset.univ (View.stores_vmem h_S256x128 (harg9.storeExact_slice rfl _ packedbf16_S256x3584_S256x128_0_2816) (fun _ => rfl)) (.inl rfl))
  let x23 : Vec F S256x128 .bf16 ← Prog.lift (.load arg1 (Rect.unit (s := S256x3584) ![0, 2944] S256x128.size inb_S256x3584_S256x128_0_2944).toLoadRect (View.loadsAt_vmem h_S256x128))
  let _ : Vec F S256x128 .bf16 ← Prog.lift (.load arg9 (Rect.unit (s := S256x3584) ![0, 2944] S256x128.size inb_S256x3584_S256x128_0_2944).toLoadRect (View.loadsAt_vmem h_S256x128))
  Prog.lift (.store arg9 (Rect.unit (s := S256x3584) ![0, 2944] S256x128.size inb_S256x3584_S256x128_0_2944) (operandOf x23) Finset.univ (View.stores_vmem h_S256x128 (harg9.storeExact_slice rfl _ packedbf16_S256x3584_S256x128_0_2944) (fun _ => rfl)) (.inl rfl))
  let _ : Vec F S256x128 .i8 ← Prog.lift (.load arg7 (Rect.unit (s := S256x1792) ![0, 1408] S256x128.size inb_S256x1792_S256x128_0_1408).toLoadRect (View.loadsAt_vmem h_S256x128))
  Prog.lift (.store arg7 (Rect.unit (s := S256x1792) ![0, 1408] S256x128.size inb_S256x1792_S256x128_0_1408) (bytesOf x22 x23) Finset.univ (View.stores_vmem h_S256x128 (harg7.storeExact_slice rfl _ packedi8_S256x1792_S256x128_0_1408) (fun _ => rfl)) (.inl rfl))
  let x24 : Vec F S256x128 .bf16 ← Prog.lift (.load arg1 (Rect.unit (s := S256x3584) ![0, 3072] S256x128.size inb_S256x3584_S256x128_0_3072).toLoadRect (View.loadsAt_vmem h_S256x128))
  let _ : Vec F S256x128 .bf16 ← Prog.lift (.load arg9 (Rect.unit (s := S256x3584) ![0, 3072] S256x128.size inb_S256x3584_S256x128_0_3072).toLoadRect (View.loadsAt_vmem h_S256x128))
  Prog.lift (.store arg9 (Rect.unit (s := S256x3584) ![0, 3072] S256x128.size inb_S256x3584_S256x128_0_3072) (operandOf x24) Finset.univ (View.stores_vmem h_S256x128 (harg9.storeExact_slice rfl _ packedbf16_S256x3584_S256x128_0_3072) (fun _ => rfl)) (.inl rfl))
  let x25 : Vec F S256x128 .bf16 ← Prog.lift (.load arg1 (Rect.unit (s := S256x3584) ![0, 3200] S256x128.size inb_S256x3584_S256x128_0_3200).toLoadRect (View.loadsAt_vmem h_S256x128))
  let _ : Vec F S256x128 .bf16 ← Prog.lift (.load arg9 (Rect.unit (s := S256x3584) ![0, 3200] S256x128.size inb_S256x3584_S256x128_0_3200).toLoadRect (View.loadsAt_vmem h_S256x128))
  Prog.lift (.store arg9 (Rect.unit (s := S256x3584) ![0, 3200] S256x128.size inb_S256x3584_S256x128_0_3200) (operandOf x25) Finset.univ (View.stores_vmem h_S256x128 (harg9.storeExact_slice rfl _ packedbf16_S256x3584_S256x128_0_3200) (fun _ => rfl)) (.inl rfl))
  let _ : Vec F S256x128 .i8 ← Prog.lift (.load arg7 (Rect.unit (s := S256x1792) ![0, 1536] S256x128.size inb_S256x1792_S256x128_0_1536).toLoadRect (View.loadsAt_vmem h_S256x128))
  Prog.lift (.store arg7 (Rect.unit (s := S256x1792) ![0, 1536] S256x128.size inb_S256x1792_S256x128_0_1536) (bytesOf x24 x25) Finset.univ (View.stores_vmem h_S256x128 (harg7.storeExact_slice rfl _ packedi8_S256x1792_S256x128_0_1536) (fun _ => rfl)) (.inl rfl))
  let x26 : Vec F S256x128 .bf16 ← Prog.lift (.load arg1 (Rect.unit (s := S256x3584) ![0, 3328] S256x128.size inb_S256x3584_S256x128_0_3328).toLoadRect (View.loadsAt_vmem h_S256x128))
  let _ : Vec F S256x128 .bf16 ← Prog.lift (.load arg9 (Rect.unit (s := S256x3584) ![0, 3328] S256x128.size inb_S256x3584_S256x128_0_3328).toLoadRect (View.loadsAt_vmem h_S256x128))
  Prog.lift (.store arg9 (Rect.unit (s := S256x3584) ![0, 3328] S256x128.size inb_S256x3584_S256x128_0_3328) (operandOf x26) Finset.univ (View.stores_vmem h_S256x128 (harg9.storeExact_slice rfl _ packedbf16_S256x3584_S256x128_0_3328) (fun _ => rfl)) (.inl rfl))
  let x27 : Vec F S256x128 .bf16 ← Prog.lift (.load arg1 (Rect.unit (s := S256x3584) ![0, 3456] S256x128.size inb_S256x3584_S256x128_0_3456).toLoadRect (View.loadsAt_vmem h_S256x128))
  let _ : Vec F S256x128 .bf16 ← Prog.lift (.load arg9 (Rect.unit (s := S256x3584) ![0, 3456] S256x128.size inb_S256x3584_S256x128_0_3456).toLoadRect (View.loadsAt_vmem h_S256x128))
  Prog.lift (.store arg9 (Rect.unit (s := S256x3584) ![0, 3456] S256x128.size inb_S256x3584_S256x128_0_3456) (operandOf x27) Finset.univ (View.stores_vmem h_S256x128 (harg9.storeExact_slice rfl _ packedbf16_S256x3584_S256x128_0_3456) (fun _ => rfl)) (.inl rfl))
  let _ : Vec F S256x128 .i8 ← Prog.lift (.load arg7 (Rect.unit (s := S256x1792) ![0, 1664] S256x128.size inb_S256x1792_S256x128_0_1664).toLoadRect (View.loadsAt_vmem h_S256x128))
  Prog.lift (.store arg7 (Rect.unit (s := S256x1792) ![0, 1664] S256x128.size inb_S256x1792_S256x128_0_1664) (bytesOf x26 x27) Finset.univ (View.stores_vmem h_S256x128 (harg7.storeExact_slice rfl _ packedi8_S256x1792_S256x128_0_1664) (fun _ => rfl)) (.inl rfl))
  let _ : Vec F S256x96 .i8 ← Prog.lift (.load arg8 (Rect.unit (s := S256x224) ![0, 128] S256x96.size inb_S256x224_S256x96_0_128).toLoadRect (View.loadsAt_vmem h_S256x96))
  Prog.lift (.store arg8 (Rect.unit (s := S256x224) ![0, 128] S256x96.size inb_S256x224_S256x96_0_128) (expsHi (placed (expsOf x16) [(1#32, x17), (2#32, x18), (3#32, x19), (4#32, x20), (5#32, x21), (6#32, x22), (7#32, x23), (8#32, x24), (9#32, x25), (10#32, x26), (11#32, x27)])) Finset.univ (View.stores_vmem h_S256x96 (harg8.storeExact_slice rfl _ packedi8_S256x224_S256x96_0_128) (fun _ => rfl)) (.inl rfl))
  pure ⟨⟩

/-- The first scales stored. -/
def scales (i : grid0.Coords) (arg1 : Memref sig .tc .vmem S256x3584 .bf16) (harg1 : arg1.IsWhole) (arg2 : Memref sig .tc .vmem S256x3584 .i8) (harg2 : arg2.IsWhole) (arg3 : Memref sig .tc .vmem S256x224 .i8) (harg3 : arg3.IsWhole) (arg4 : Memref sig .tc .vmem S256x224 .i8) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (arg10 : Memref sig .tc .vmem S2x256x256 .bf16) (harg10 : arg10.IsWhole) :
    Prog (TpuEff nD τ sig (Elt F) Λ₀ .tc) (Σ' (v30 : FVec F S256x224 .bf16), FVec F S1x256x128 .bf16) := do
  let e0 : Vec F S256x224 .i8 ← Prog.lift (.load arg3 (Rect.unit (s := S256x224) ![0, 0] S256x224.size inb_S256x224_S256x224_0_0).toLoadRect (View.loadsAt_vmem h_S256x224))
  let _ : Vec F S1x256x128 .bf16 ← Prog.lift (.load arg10 (Rect.unit (s := S2x256x256) ![0, 0, 0] S1x256x128.size inb_S2x256x256_S1x256x128_0_0_0).toLoadRect (View.loadsAt_vmem h_S1x256x128))
  Prog.lift (.store arg10 (Rect.unit (s := S2x256x256) ![0, 0, 0] S1x256x128.size inb_S2x256x256_S1x256x128_0_0_0) (scaleLo e0) Finset.univ (View.stores_vmem h_S1x256x128 (harg10.storeExact_slice rfl _ packedbf16_S2x256x256_S1x256x128_0_0_0) (fun _ => rfl)) (.inl rfl))
  let _ : Vec F S1x256x96 .bf16 ← Prog.lift (.load arg10 (Rect.unit (s := S2x256x256) ![0, 0, 128] S1x256x96.size inb_S2x256x256_S1x256x96_0_0_128).toLoadRect (View.loadsAt_vmem h_S1x256x96))
  Prog.lift (.store arg10 (Rect.unit (s := S2x256x256) ![0, 0, 128] S1x256x96.size inb_S2x256x256_S1x256x96_0_0_128) (scaleHi e0) Finset.univ (View.stores_vmem h_S1x256x96 (harg10.storeExact_slice rfl _ packedbf16_S2x256x256_S1x256x96_0_0_128) (fun _ => rfl)) (.inl rfl))
  let e1 : Vec F S256x224 .i8 ← Prog.lift (.load arg4 (Rect.unit (s := S256x224) ![0, 0] S256x224.size inb_S256x224_S256x224_0_0).toLoadRect (View.loadsAt_vmem h_S256x224))
  let _ : Vec F S1x256x128 .bf16 ← Prog.lift (.load arg10 (Rect.unit (s := S2x256x256) ![1, 0, 0] S1x256x128.size inb_S2x256x256_S1x256x128_1_0_0).toLoadRect (View.loadsAt_vmem h_S1x256x128))
  pure ⟨scale e1, scaleLo e1⟩

/-- The rest: the other scales, and the two products tile by tile. -/
def rest (i : grid0.Coords) (arg1 : Memref sig .tc .vmem S256x3584 .bf16) (harg1 : arg1.IsWhole) (arg2 : Memref sig .tc .vmem S256x3584 .i8) (harg2 : arg2.IsWhole) (arg3 : Memref sig .tc .vmem S256x224 .i8) (harg3 : arg3.IsWhole) (arg4 : Memref sig .tc .vmem S256x224 .i8) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (arg10 : Memref sig .tc .vmem S2x256x256 .bf16) (harg10 : arg10.IsWhole) (v30 : FVec F S256x224 .bf16) (v34 : FVec F S1x256x128 .bf16) :
    Prog (TpuEff nD τ sig (Elt F) Λ₀ .tc) PUnit := do
  Prog.lift (.store arg10 (Rect.unit (s := S2x256x256) ![1, 0, 0] S1x256x128.size inb_S2x256x256_S1x256x128_1_0_0) v34 Finset.univ (View.stores_vmem h_S1x256x128 (harg10.storeExact_slice rfl _ packedbf16_S2x256x256_S1x256x128_1_0_0) (fun _ => rfl)) (.inl rfl))
  let _ : Vec F S1x256x96 .bf16 ← Prog.lift (.load arg10 (Rect.unit (s := S2x256x256) ![1, 0, 128] S1x256x96.size inb_S2x256x256_S1x256x96_1_0_128).toLoadRect (View.loadsAt_vmem h_S1x256x96))
  Prog.lift (.store arg10 (Rect.unit (s := S2x256x256) ![1, 0, 128] S1x256x96.size inb_S2x256x256_S1x256x96_1_0_128) (scaleRest v30) Finset.univ (View.stores_vmem h_S1x256x96 (harg10.storeExact_slice rfl _ packedbf16_S2x256x256_S1x256x96_1_0_128) (fun _ => rfl)) (.inl rfl))
  let w0 : Vec F S256x128 .i8 ← Prog.lift (.load arg2 (Rect.unit (s := S256x3584) ![0, 0] S256x128.size inb_S256x3584_S256x128_0_0).toLoadRect (View.loadsAt_vmem h_S256x128))
  let s0 : Vec F S1x256x128 .bf16 ← Prog.lift (.load arg10 (Rect.unit (s := S2x256x256) ![0, 0, 0] S1x256x128.size inb_S2x256x256_S1x256x128_0_0_0).toLoadRect (View.loadsAt_vmem h_S1x256x128))
  let t0 : Vec F S1x256x128 .bf16 ← Prog.lift (.load arg10 (Rect.unit (s := S2x256x256) ![1, 0, 0] S1x256x128.size inb_S2x256x256_S1x256x128_1_0_0).toLoadRect (View.loadsAt_vmem h_S1x256x128))
  let w1 : Vec F S256x128 .i8 ← Prog.lift (.load arg2 (Rect.unit (s := S256x3584) ![0, 128] S256x128.size inb_S256x3584_S256x128_0_128).toLoadRect (View.loadsAt_vmem h_S256x128))
  let s1 : Vec F S1x256x128 .bf16 ← Prog.lift (.load arg10 (Rect.unit (s := S2x256x256) ![0, 0, 0] S1x256x128.size inb_S2x256x256_S1x256x128_0_0_0).toLoadRect (View.loadsAt_vmem h_S1x256x128))
  let t1 : Vec F S1x256x128 .bf16 ← Prog.lift (.load arg10 (Rect.unit (s := S2x256x256) ![1, 0, 0] S1x256x128.size inb_S2x256x256_S1x256x128_1_0_0).toLoadRect (View.loadsAt_vmem h_S1x256x128))
  let a0 : Vec F S256x256 .bf16 ← Prog.lift (.load arg9 (Rect.unit (s := S256x3584) ![0, 0] S256x256.size inb_S256x3584_S256x256_0_0).toLoadRect (View.loadsAt_vmem h_S256x256))
  let w2 : Vec F S256x128 .i8 ← Prog.lift (.load arg2 (Rect.unit (s := S256x3584) ![0, 256] S256x128.size inb_S256x3584_S256x128_0_256).toLoadRect (View.loadsAt_vmem h_S256x128))
  let s2 : Vec F S1x256x128 .bf16 ← Prog.lift (.load arg10 (Rect.unit (s := S2x256x256) ![0, 0, 0] S1x256x128.size inb_S2x256x256_S1x256x128_0_0_0).toLoadRect (View.loadsAt_vmem h_S1x256x128))
  let t2 : Vec F S1x256x128 .bf16 ← Prog.lift (.load arg10 (Rect.unit (s := S2x256x256) ![1, 0, 0] S1x256x128.size inb_S2x256x256_S1x256x128_1_0_0).toLoadRect (View.loadsAt_vmem h_S1x256x128))
  let w3 : Vec F S256x128 .i8 ← Prog.lift (.load arg2 (Rect.unit (s := S256x3584) ![0, 384] S256x128.size inb_S256x3584_S256x128_0_384).toLoadRect (View.loadsAt_vmem h_S256x128))
  let s3 : Vec F S1x256x128 .bf16 ← Prog.lift (.load arg10 (Rect.unit (s := S2x256x256) ![0, 0, 0] S1x256x128.size inb_S2x256x256_S1x256x128_0_0_0).toLoadRect (View.loadsAt_vmem h_S1x256x128))
  let t3 : Vec F S1x256x128 .bf16 ← Prog.lift (.load arg10 (Rect.unit (s := S2x256x256) ![1, 0, 0] S1x256x128.size inb_S2x256x256_S1x256x128_1_0_0).toLoadRect (View.loadsAt_vmem h_S1x256x128))
  let a1 : Vec F S256x256 .bf16 ← Prog.lift (.load arg9 (Rect.unit (s := S256x3584) ![0, 256] S256x256.size inb_S256x3584_S256x256_0_256).toLoadRect (View.loadsAt_vmem h_S256x256))
  let w4 : Vec F S256x128 .i8 ← Prog.lift (.load arg2 (Rect.unit (s := S256x3584) ![0, 512] S256x128.size inb_S256x3584_S256x128_0_512).toLoadRect (View.loadsAt_vmem h_S256x128))
  let s4 : Vec F S1x256x128 .bf16 ← Prog.lift (.load arg10 (Rect.unit (s := S2x256x256) ![0, 0, 0] S1x256x128.size inb_S2x256x256_S1x256x128_0_0_0).toLoadRect (View.loadsAt_vmem h_S1x256x128))
  let t4 : Vec F S1x256x128 .bf16 ← Prog.lift (.load arg10 (Rect.unit (s := S2x256x256) ![1, 0, 0] S1x256x128.size inb_S2x256x256_S1x256x128_1_0_0).toLoadRect (View.loadsAt_vmem h_S1x256x128))
  let w5 : Vec F S256x128 .i8 ← Prog.lift (.load arg2 (Rect.unit (s := S256x3584) ![0, 640] S256x128.size inb_S256x3584_S256x128_0_640).toLoadRect (View.loadsAt_vmem h_S256x128))
  let s5 : Vec F S1x256x128 .bf16 ← Prog.lift (.load arg10 (Rect.unit (s := S2x256x256) ![0, 0, 0] S1x256x128.size inb_S2x256x256_S1x256x128_0_0_0).toLoadRect (View.loadsAt_vmem h_S1x256x128))
  let t5 : Vec F S1x256x128 .bf16 ← Prog.lift (.load arg10 (Rect.unit (s := S2x256x256) ![1, 0, 0] S1x256x128.size inb_S2x256x256_S1x256x128_1_0_0).toLoadRect (View.loadsAt_vmem h_S1x256x128))
  let a2 : Vec F S256x256 .bf16 ← Prog.lift (.load arg9 (Rect.unit (s := S256x3584) ![0, 512] S256x256.size inb_S256x3584_S256x256_0_512).toLoadRect (View.loadsAt_vmem h_S256x256))
  let w6 : Vec F S256x128 .i8 ← Prog.lift (.load arg2 (Rect.unit (s := S256x3584) ![0, 768] S256x128.size inb_S256x3584_S256x128_0_768).toLoadRect (View.loadsAt_vmem h_S256x128))
  let s6 : Vec F S1x256x128 .bf16 ← Prog.lift (.load arg10 (Rect.unit (s := S2x256x256) ![0, 0, 0] S1x256x128.size inb_S2x256x256_S1x256x128_0_0_0).toLoadRect (View.loadsAt_vmem h_S1x256x128))
  let t6 : Vec F S1x256x128 .bf16 ← Prog.lift (.load arg10 (Rect.unit (s := S2x256x256) ![1, 0, 0] S1x256x128.size inb_S2x256x256_S1x256x128_1_0_0).toLoadRect (View.loadsAt_vmem h_S1x256x128))
  let w7 : Vec F S256x128 .i8 ← Prog.lift (.load arg2 (Rect.unit (s := S256x3584) ![0, 896] S256x128.size inb_S256x3584_S256x128_0_896).toLoadRect (View.loadsAt_vmem h_S256x128))
  let s7 : Vec F S1x256x128 .bf16 ← Prog.lift (.load arg10 (Rect.unit (s := S2x256x256) ![0, 0, 0] S1x256x128.size inb_S2x256x256_S1x256x128_0_0_0).toLoadRect (View.loadsAt_vmem h_S1x256x128))
  let t7 : Vec F S1x256x128 .bf16 ← Prog.lift (.load arg10 (Rect.unit (s := S2x256x256) ![1, 0, 0] S1x256x128.size inb_S2x256x256_S1x256x128_1_0_0).toLoadRect (View.loadsAt_vmem h_S1x256x128))
  let a3 : Vec F S256x256 .bf16 ← Prog.lift (.load arg9 (Rect.unit (s := S256x3584) ![0, 768] S256x256.size inb_S256x3584_S256x256_0_768).toLoadRect (View.loadsAt_vmem h_S256x256))
  let w8 : Vec F S256x128 .i8 ← Prog.lift (.load arg2 (Rect.unit (s := S256x3584) ![0, 1024] S256x128.size inb_S256x3584_S256x128_0_1024).toLoadRect (View.loadsAt_vmem h_S256x128))
  let s8 : Vec F S1x256x128 .bf16 ← Prog.lift (.load arg10 (Rect.unit (s := S2x256x256) ![0, 0, 0] S1x256x128.size inb_S2x256x256_S1x256x128_0_0_0).toLoadRect (View.loadsAt_vmem h_S1x256x128))
  let t8 : Vec F S1x256x128 .bf16 ← Prog.lift (.load arg10 (Rect.unit (s := S2x256x256) ![1, 0, 0] S1x256x128.size inb_S2x256x256_S1x256x128_1_0_0).toLoadRect (View.loadsAt_vmem h_S1x256x128))
  let w9 : Vec F S256x128 .i8 ← Prog.lift (.load arg2 (Rect.unit (s := S256x3584) ![0, 1152] S256x128.size inb_S256x3584_S256x128_0_1152).toLoadRect (View.loadsAt_vmem h_S256x128))
  let s9 : Vec F S1x256x128 .bf16 ← Prog.lift (.load arg10 (Rect.unit (s := S2x256x256) ![0, 0, 0] S1x256x128.size inb_S2x256x256_S1x256x128_0_0_0).toLoadRect (View.loadsAt_vmem h_S1x256x128))
  let t9 : Vec F S1x256x128 .bf16 ← Prog.lift (.load arg10 (Rect.unit (s := S2x256x256) ![1, 0, 0] S1x256x128.size inb_S2x256x256_S1x256x128_1_0_0).toLoadRect (View.loadsAt_vmem h_S1x256x128))
  let a4 : Vec F S256x256 .bf16 ← Prog.lift (.load arg9 (Rect.unit (s := S256x3584) ![0, 1024] S256x256.size inb_S256x3584_S256x256_0_1024).toLoadRect (View.loadsAt_vmem h_S256x256))
  let w10 : Vec F S256x128 .i8 ← Prog.lift (.load arg2 (Rect.unit (s := S256x3584) ![0, 1280] S256x128.size inb_S256x3584_S256x128_0_1280).toLoadRect (View.loadsAt_vmem h_S256x128))
  let s10 : Vec F S1x256x128 .bf16 ← Prog.lift (.load arg10 (Rect.unit (s := S2x256x256) ![0, 0, 0] S1x256x128.size inb_S2x256x256_S1x256x128_0_0_0).toLoadRect (View.loadsAt_vmem h_S1x256x128))
  let t10 : Vec F S1x256x128 .bf16 ← Prog.lift (.load arg10 (Rect.unit (s := S2x256x256) ![1, 0, 0] S1x256x128.size inb_S2x256x256_S1x256x128_1_0_0).toLoadRect (View.loadsAt_vmem h_S1x256x128))
  let w11 : Vec F S256x128 .i8 ← Prog.lift (.load arg2 (Rect.unit (s := S256x3584) ![0, 1408] S256x128.size inb_S256x3584_S256x128_0_1408).toLoadRect (View.loadsAt_vmem h_S256x128))
  let s11 : Vec F S1x256x128 .bf16 ← Prog.lift (.load arg10 (Rect.unit (s := S2x256x256) ![0, 0, 0] S1x256x128.size inb_S2x256x256_S1x256x128_0_0_0).toLoadRect (View.loadsAt_vmem h_S1x256x128))
  let t11 : Vec F S1x256x128 .bf16 ← Prog.lift (.load arg10 (Rect.unit (s := S2x256x256) ![1, 0, 0] S1x256x128.size inb_S2x256x256_S1x256x128_1_0_0).toLoadRect (View.loadsAt_vmem h_S1x256x128))
  let a5 : Vec F S256x256 .bf16 ← Prog.lift (.load arg9 (Rect.unit (s := S256x3584) ![0, 1280] S256x256.size inb_S256x3584_S256x256_0_1280).toLoadRect (View.loadsAt_vmem h_S256x256))
  let w12 : Vec F S256x128 .i8 ← Prog.lift (.load arg2 (Rect.unit (s := S256x3584) ![0, 1536] S256x128.size inb_S256x3584_S256x128_0_1536).toLoadRect (View.loadsAt_vmem h_S256x128))
  let s12 : Vec F S1x256x128 .bf16 ← Prog.lift (.load arg10 (Rect.unit (s := S2x256x256) ![0, 0, 0] S1x256x128.size inb_S2x256x256_S1x256x128_0_0_0).toLoadRect (View.loadsAt_vmem h_S1x256x128))
  let t12 : Vec F S1x256x128 .bf16 ← Prog.lift (.load arg10 (Rect.unit (s := S2x256x256) ![1, 0, 0] S1x256x128.size inb_S2x256x256_S1x256x128_1_0_0).toLoadRect (View.loadsAt_vmem h_S1x256x128))
  let w13 : Vec F S256x128 .i8 ← Prog.lift (.load arg2 (Rect.unit (s := S256x3584) ![0, 1664] S256x128.size inb_S256x3584_S256x128_0_1664).toLoadRect (View.loadsAt_vmem h_S256x128))
  let s13 : Vec F S1x256x128 .bf16 ← Prog.lift (.load arg10 (Rect.unit (s := S2x256x256) ![0, 0, 0] S1x256x128.size inb_S2x256x256_S1x256x128_0_0_0).toLoadRect (View.loadsAt_vmem h_S1x256x128))
  let t13 : Vec F S1x256x128 .bf16 ← Prog.lift (.load arg10 (Rect.unit (s := S2x256x256) ![1, 0, 0] S1x256x128.size inb_S2x256x256_S1x256x128_1_0_0).toLoadRect (View.loadsAt_vmem h_S1x256x128))
  let a6 : Vec F S256x256 .bf16 ← Prog.lift (.load arg9 (Rect.unit (s := S256x3584) ![0, 1536] S256x256.size inb_S256x3584_S256x256_0_1536).toLoadRect (View.loadsAt_vmem h_S256x256))
  let w14 : Vec F S256x128 .i8 ← Prog.lift (.load arg2 (Rect.unit (s := S256x3584) ![0, 1792] S256x128.size inb_S256x3584_S256x128_0_1792).toLoadRect (View.loadsAt_vmem h_S256x128))
  let s14 : Vec F S1x256x128 .bf16 ← Prog.lift (.load arg10 (Rect.unit (s := S2x256x256) ![0, 0, 0] S1x256x128.size inb_S2x256x256_S1x256x128_0_0_0).toLoadRect (View.loadsAt_vmem h_S1x256x128))
  let t14 : Vec F S1x256x128 .bf16 ← Prog.lift (.load arg10 (Rect.unit (s := S2x256x256) ![1, 0, 0] S1x256x128.size inb_S2x256x256_S1x256x128_1_0_0).toLoadRect (View.loadsAt_vmem h_S1x256x128))
  let w15 : Vec F S256x128 .i8 ← Prog.lift (.load arg2 (Rect.unit (s := S256x3584) ![0, 1920] S256x128.size inb_S256x3584_S256x128_0_1920).toLoadRect (View.loadsAt_vmem h_S256x128))
  let s15 : Vec F S1x256x128 .bf16 ← Prog.lift (.load arg10 (Rect.unit (s := S2x256x256) ![0, 0, 0] S1x256x128.size inb_S2x256x256_S1x256x128_0_0_0).toLoadRect (View.loadsAt_vmem h_S1x256x128))
  let t15 : Vec F S1x256x128 .bf16 ← Prog.lift (.load arg10 (Rect.unit (s := S2x256x256) ![1, 0, 0] S1x256x128.size inb_S2x256x256_S1x256x128_1_0_0).toLoadRect (View.loadsAt_vmem h_S1x256x128))
  let a7 : Vec F S256x256 .bf16 ← Prog.lift (.load arg9 (Rect.unit (s := S256x3584) ![0, 1792] S256x256.size inb_S256x3584_S256x256_0_1792).toLoadRect (View.loadsAt_vmem h_S256x256))
  let w16 : Vec F S256x128 .i8 ← Prog.lift (.load arg2 (Rect.unit (s := S256x3584) ![0, 2048] S256x128.size inb_S256x3584_S256x128_0_2048).toLoadRect (View.loadsAt_vmem h_S256x128))
  let s16 : Vec F S1x256x128 .bf16 ← Prog.lift (.load arg10 (Rect.unit (s := S2x256x256) ![0, 0, 128] S1x256x128.size inb_S2x256x256_S1x256x128_0_0_128).toLoadRect (View.loadsAt_vmem h_S1x256x128))
  let t16 : Vec F S1x256x128 .bf16 ← Prog.lift (.load arg10 (Rect.unit (s := S2x256x256) ![1, 0, 128] S1x256x128.size inb_S2x256x256_S1x256x128_1_0_128).toLoadRect (View.loadsAt_vmem h_S1x256x128))
  let w17 : Vec F S256x128 .i8 ← Prog.lift (.load arg2 (Rect.unit (s := S256x3584) ![0, 2176] S256x128.size inb_S256x3584_S256x128_0_2176).toLoadRect (View.loadsAt_vmem h_S256x128))
  let s17 : Vec F S1x256x128 .bf16 ← Prog.lift (.load arg10 (Rect.unit (s := S2x256x256) ![0, 0, 128] S1x256x128.size inb_S2x256x256_S1x256x128_0_0_128).toLoadRect (View.loadsAt_vmem h_S1x256x128))
  let t17 : Vec F S1x256x128 .bf16 ← Prog.lift (.load arg10 (Rect.unit (s := S2x256x256) ![1, 0, 128] S1x256x128.size inb_S2x256x256_S1x256x128_1_0_128).toLoadRect (View.loadsAt_vmem h_S1x256x128))
  let a8 : Vec F S256x256 .bf16 ← Prog.lift (.load arg9 (Rect.unit (s := S256x3584) ![0, 2048] S256x256.size inb_S256x3584_S256x256_0_2048).toLoadRect (View.loadsAt_vmem h_S256x256))
  let w18 : Vec F S256x128 .i8 ← Prog.lift (.load arg2 (Rect.unit (s := S256x3584) ![0, 2304] S256x128.size inb_S256x3584_S256x128_0_2304).toLoadRect (View.loadsAt_vmem h_S256x128))
  let s18 : Vec F S1x256x128 .bf16 ← Prog.lift (.load arg10 (Rect.unit (s := S2x256x256) ![0, 0, 128] S1x256x128.size inb_S2x256x256_S1x256x128_0_0_128).toLoadRect (View.loadsAt_vmem h_S1x256x128))
  let t18 : Vec F S1x256x128 .bf16 ← Prog.lift (.load arg10 (Rect.unit (s := S2x256x256) ![1, 0, 128] S1x256x128.size inb_S2x256x256_S1x256x128_1_0_128).toLoadRect (View.loadsAt_vmem h_S1x256x128))
  let w19 : Vec F S256x128 .i8 ← Prog.lift (.load arg2 (Rect.unit (s := S256x3584) ![0, 2432] S256x128.size inb_S256x3584_S256x128_0_2432).toLoadRect (View.loadsAt_vmem h_S256x128))
  let s19 : Vec F S1x256x128 .bf16 ← Prog.lift (.load arg10 (Rect.unit (s := S2x256x256) ![0, 0, 128] S1x256x128.size inb_S2x256x256_S1x256x128_0_0_128).toLoadRect (View.loadsAt_vmem h_S1x256x128))
  let t19 : Vec F S1x256x128 .bf16 ← Prog.lift (.load arg10 (Rect.unit (s := S2x256x256) ![1, 0, 128] S1x256x128.size inb_S2x256x256_S1x256x128_1_0_128).toLoadRect (View.loadsAt_vmem h_S1x256x128))
  let a9 : Vec F S256x256 .bf16 ← Prog.lift (.load arg9 (Rect.unit (s := S256x3584) ![0, 2304] S256x256.size inb_S256x3584_S256x256_0_2304).toLoadRect (View.loadsAt_vmem h_S256x256))
  let w20 : Vec F S256x128 .i8 ← Prog.lift (.load arg2 (Rect.unit (s := S256x3584) ![0, 2560] S256x128.size inb_S256x3584_S256x128_0_2560).toLoadRect (View.loadsAt_vmem h_S256x128))
  let s20 : Vec F S1x256x128 .bf16 ← Prog.lift (.load arg10 (Rect.unit (s := S2x256x256) ![0, 0, 128] S1x256x128.size inb_S2x256x256_S1x256x128_0_0_128).toLoadRect (View.loadsAt_vmem h_S1x256x128))
  let t20 : Vec F S1x256x128 .bf16 ← Prog.lift (.load arg10 (Rect.unit (s := S2x256x256) ![1, 0, 128] S1x256x128.size inb_S2x256x256_S1x256x128_1_0_128).toLoadRect (View.loadsAt_vmem h_S1x256x128))
  let w21 : Vec F S256x128 .i8 ← Prog.lift (.load arg2 (Rect.unit (s := S256x3584) ![0, 2688] S256x128.size inb_S256x3584_S256x128_0_2688).toLoadRect (View.loadsAt_vmem h_S256x128))
  let s21 : Vec F S1x256x128 .bf16 ← Prog.lift (.load arg10 (Rect.unit (s := S2x256x256) ![0, 0, 128] S1x256x128.size inb_S2x256x256_S1x256x128_0_0_128).toLoadRect (View.loadsAt_vmem h_S1x256x128))
  let t21 : Vec F S1x256x128 .bf16 ← Prog.lift (.load arg10 (Rect.unit (s := S2x256x256) ![1, 0, 128] S1x256x128.size inb_S2x256x256_S1x256x128_1_0_128).toLoadRect (View.loadsAt_vmem h_S1x256x128))
  let a10 : Vec F S256x256 .bf16 ← Prog.lift (.load arg9 (Rect.unit (s := S256x3584) ![0, 2560] S256x256.size inb_S256x3584_S256x256_0_2560).toLoadRect (View.loadsAt_vmem h_S256x256))
  let w22 : Vec F S256x128 .i8 ← Prog.lift (.load arg2 (Rect.unit (s := S256x3584) ![0, 2816] S256x128.size inb_S256x3584_S256x128_0_2816).toLoadRect (View.loadsAt_vmem h_S256x128))
  let s22 : Vec F S1x256x128 .bf16 ← Prog.lift (.load arg10 (Rect.unit (s := S2x256x256) ![0, 0, 128] S1x256x128.size inb_S2x256x256_S1x256x128_0_0_128).toLoadRect (View.loadsAt_vmem h_S1x256x128))
  let t22 : Vec F S1x256x128 .bf16 ← Prog.lift (.load arg10 (Rect.unit (s := S2x256x256) ![1, 0, 128] S1x256x128.size inb_S2x256x256_S1x256x128_1_0_128).toLoadRect (View.loadsAt_vmem h_S1x256x128))
  let w23 : Vec F S256x128 .i8 ← Prog.lift (.load arg2 (Rect.unit (s := S256x3584) ![0, 2944] S256x128.size inb_S256x3584_S256x128_0_2944).toLoadRect (View.loadsAt_vmem h_S256x128))
  let s23 : Vec F S1x256x128 .bf16 ← Prog.lift (.load arg10 (Rect.unit (s := S2x256x256) ![0, 0, 128] S1x256x128.size inb_S2x256x256_S1x256x128_0_0_128).toLoadRect (View.loadsAt_vmem h_S1x256x128))
  let t23 : Vec F S1x256x128 .bf16 ← Prog.lift (.load arg10 (Rect.unit (s := S2x256x256) ![1, 0, 128] S1x256x128.size inb_S2x256x256_S1x256x128_1_0_128).toLoadRect (View.loadsAt_vmem h_S1x256x128))
  let a11 : Vec F S256x256 .bf16 ← Prog.lift (.load arg9 (Rect.unit (s := S256x3584) ![0, 2816] S256x256.size inb_S256x3584_S256x256_0_2816).toLoadRect (View.loadsAt_vmem h_S256x256))
  let w24 : Vec F S256x128 .i8 ← Prog.lift (.load arg2 (Rect.unit (s := S256x3584) ![0, 3072] S256x128.size inb_S256x3584_S256x128_0_3072).toLoadRect (View.loadsAt_vmem h_S256x128))
  let s24 : Vec F S1x256x128 .bf16 ← Prog.lift (.load arg10 (Rect.unit (s := S2x256x256) ![0, 0, 128] S1x256x128.size inb_S2x256x256_S1x256x128_0_0_128).toLoadRect (View.loadsAt_vmem h_S1x256x128))
  let t24 : Vec F S1x256x128 .bf16 ← Prog.lift (.load arg10 (Rect.unit (s := S2x256x256) ![1, 0, 128] S1x256x128.size inb_S2x256x256_S1x256x128_1_0_128).toLoadRect (View.loadsAt_vmem h_S1x256x128))
  let w25 : Vec F S256x128 .i8 ← Prog.lift (.load arg2 (Rect.unit (s := S256x3584) ![0, 3200] S256x128.size inb_S256x3584_S256x128_0_3200).toLoadRect (View.loadsAt_vmem h_S256x128))
  let s25 : Vec F S1x256x128 .bf16 ← Prog.lift (.load arg10 (Rect.unit (s := S2x256x256) ![0, 0, 128] S1x256x128.size inb_S2x256x256_S1x256x128_0_0_128).toLoadRect (View.loadsAt_vmem h_S1x256x128))
  let t25 : Vec F S1x256x128 .bf16 ← Prog.lift (.load arg10 (Rect.unit (s := S2x256x256) ![1, 0, 128] S1x256x128.size inb_S2x256x256_S1x256x128_1_0_128).toLoadRect (View.loadsAt_vmem h_S1x256x128))
  let a12 : Vec F S256x256 .bf16 ← Prog.lift (.load arg9 (Rect.unit (s := S256x3584) ![0, 3072] S256x256.size inb_S256x3584_S256x256_0_3072).toLoadRect (View.loadsAt_vmem h_S256x256))
  let w26 : Vec F S256x128 .i8 ← Prog.lift (.load arg2 (Rect.unit (s := S256x3584) ![0, 3328] S256x128.size inb_S256x3584_S256x128_0_3328).toLoadRect (View.loadsAt_vmem h_S256x128))
  let s26 : Vec F S1x256x128 .bf16 ← Prog.lift (.load arg10 (Rect.unit (s := S2x256x256) ![0, 0, 128] S1x256x128.size inb_S2x256x256_S1x256x128_0_0_128).toLoadRect (View.loadsAt_vmem h_S1x256x128))
  let t26 : Vec F S1x256x128 .bf16 ← Prog.lift (.load arg10 (Rect.unit (s := S2x256x256) ![1, 0, 128] S1x256x128.size inb_S2x256x256_S1x256x128_1_0_128).toLoadRect (View.loadsAt_vmem h_S1x256x128))
  let w27 : Vec F S256x128 .i8 ← Prog.lift (.load arg2 (Rect.unit (s := S256x3584) ![0, 3456] S256x128.size inb_S256x3584_S256x128_0_3456).toLoadRect (View.loadsAt_vmem h_S256x128))
  let s27 : Vec F S1x256x128 .bf16 ← Prog.lift (.load arg10 (Rect.unit (s := S2x256x256) ![0, 0, 128] S1x256x128.size inb_S2x256x256_S1x256x128_0_0_128).toLoadRect (View.loadsAt_vmem h_S1x256x128))
  let t27 : Vec F S1x256x128 .bf16 ← Prog.lift (.load arg10 (Rect.unit (s := S2x256x256) ![1, 0, 128] S1x256x128.size inb_S2x256x256_S1x256x128_1_0_128).toLoadRect (View.loadsAt_vmem h_S1x256x128))
  let a13 : Vec F S256x256 .bf16 ← Prog.lift (.load arg9 (Rect.unit (s := S256x3584) ![0, 3328] S256x256.size inb_S256x3584_S256x256_0_3328).toLoadRect (View.loadsAt_vmem h_S256x256))
  let lo : FVec F S256x256 .f32 := (tile (tile (tile (tile (tile (tile (tile (tile (tile (tile (tile (tile (tile (tile none₀ a0 (decode (lowBits (words w0)) 0#32 s0)
      (decode (lowBits (words w1)) 8#32 s1)) a1 (decode (lowBits (words w2)) 16#32 s2)
      (decode (lowBits (words w3)) 24#32 s3)) a2 (decode (lowBits (words w4)) 32#32 s4)
      (decode (lowBits (words w5)) 40#32 s5)) a3 (decode (lowBits (words w6)) 48#32 s6)
      (decode (lowBits (words w7)) 56#32 s7)) a4 (decode (lowBits (words w8)) 64#32 s8)
      (decode (lowBits (words w9)) 72#32 s9)) a5 (decode (lowBits (words w10)) 80#32 s10)
      (decode (lowBits (words w11)) 88#32 s11)) a6 (decode (lowBits (words w12)) 96#32 s12)
      (decode (lowBits (words w13)) 104#32 s13)) a7 (decode (lowBits (words w14)) 112#32 s14)
      (decode (lowBits (words w15)) 120#32 s15)) a8 (decode (lowBits (words w16)) 0#32 s16)
      (decode (lowBits (words w17)) 8#32 s17)) a9 (decode (lowBits (words w18)) 16#32 s18)
      (decode (lowBits (words w19)) 24#32 s19)) a10 (decode (lowBits (words w20)) 32#32 s20)
      (decode (lowBits (words w21)) 40#32 s21)) a11 (decode (lowBits (words w22)) 48#32 s22)
      (decode (lowBits (words w23)) 56#32 s23)) a12 (decode (lowBits (words w24)) 64#32 s24)
      (decode (lowBits (words w25)) 72#32 s25)) a13 (decode (lowBits (words w26)) 80#32 s26)
      (decode (lowBits (words w27)) 88#32 s27))
  let hi : FVec F S256x256 .f32 := (tile (tile (tile (tile (tile (tile (tile (tile (tile (tile (tile (tile (tile (tile none₀ a0 (decode (highBits (words w0)) 0#32 t0)
      (decode (highBits (words w1)) 8#32 t1)) a1 (decode (highBits (words w2)) 16#32 t2)
      (decode (highBits (words w3)) 24#32 t3)) a2 (decode (highBits (words w4)) 32#32 t4)
      (decode (highBits (words w5)) 40#32 t5)) a3 (decode (highBits (words w6)) 48#32 t6)
      (decode (highBits (words w7)) 56#32 t7)) a4 (decode (highBits (words w8)) 64#32 t8)
      (decode (highBits (words w9)) 72#32 t9)) a5 (decode (highBits (words w10)) 80#32 t10)
      (decode (highBits (words w11)) 88#32 t11)) a6 (decode (highBits (words w12)) 96#32 t12)
      (decode (highBits (words w13)) 104#32 t13)) a7 (decode (highBits (words w14)) 112#32 t14)
      (decode (highBits (words w15)) 120#32 t15)) a8 (decode (highBits (words w16)) 0#32 t16)
      (decode (highBits (words w17)) 8#32 t17)) a9 (decode (highBits (words w18)) 16#32 t18)
      (decode (highBits (words w19)) 24#32 t19)) a10 (decode (highBits (words w20)) 32#32 t20)
      (decode (highBits (words w21)) 40#32 t21)) a11 (decode (highBits (words w22)) 48#32 t22)
      (decode (highBits (words w23)) 56#32 t23)) a12 (decode (highBits (words w24)) 64#32 t24)
      (decode (highBits (words w25)) 72#32 t25)) a13 (decode (highBits (words w26)) 80#32 t26)
      (decode (highBits (words w27)) 88#32 t27))
  let _ : Vec F S256x256 .bf16 ← Prog.lift (.load arg5 (Rect.unit (s := S256x256) ![0, 0] S256x256.size inb_S256x256_S256x256_0_0).toLoadRect (View.loadsAt_vmem h_S256x256))
  Prog.lift (.store arg5 (Rect.unit (s := S256x256) ![0, 0] S256x256.size inb_S256x256_S256x256_0_0) (stored lo) Finset.univ (View.stores_vmem h_S256x256 (harg5.storeExact_slice rfl _ packedbf16_S256x256_S256x256_0_0) (fun _ => rfl)) (.inl rfl))
  let _ : Vec F S256x256 .bf16 ← Prog.lift (.load arg6 (Rect.unit (s := S256x256) ![0, 0] S256x256.size inb_S256x256_S256x256_0_0).toLoadRect (View.loadsAt_vmem h_S256x256))
  Prog.lift (.store arg6 (Rect.unit (s := S256x256) ![0, 0] S256x256.size inb_S256x256_S256x256_0_0) (stored hi) Finset.univ (View.stores_vmem h_S256x256 (harg6.storeExact_slice rfl _ packedbf16_S256x256_S256x256_0_0) (fun _ => rfl)) (.inl rfl))
  pure ⟨⟩

/-- The products, as every grid point computes them. -/
def prods (i : grid0.Coords) (arg1 : Memref sig .tc .vmem S256x3584 .bf16) (harg1 : arg1.IsWhole) (arg2 : Memref sig .tc .vmem S256x3584 .i8) (harg2 : arg2.IsWhole) (arg3 : Memref sig .tc .vmem S256x224 .i8) (harg3 : arg3.IsWhole) (arg4 : Memref sig .tc .vmem S256x224 .i8) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (arg10 : Memref sig .tc .vmem S2x256x256 .bf16) (harg10 : arg10.IsWhole) : Prog (TpuEff nD τ sig (Elt F) Λ₀ .tc) PUnit := do
  let p ← scales i arg1 harg1 arg2 harg2 arg3 harg3 arg4 harg4 arg5 harg5 arg6 harg6 arg7 harg7 arg8 harg8 arg9 harg9 arg10 harg10
  rest i arg1 harg1 arg2 harg2 arg3 harg3 arg4 harg4 arg5 harg5 arg6 harg6 arg7 harg7 arg8 harg8 arg9 harg9 arg10 harg10 p.1 p.2

variable (i : grid0.Coords) (arg1 : Memref sig .tc .vmem S256x3584 .bf16) (harg1 : arg1.IsWhole) (arg2 : Memref sig .tc .vmem S256x3584 .i8) (harg2 : arg2.IsWhole) (arg3 : Memref sig .tc .vmem S256x224 .i8) (harg3 : arg3.IsWhole) (arg4 : Memref sig .tc .vmem S256x224 .i8) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (arg10 : Memref sig .tc .vmem S2x256x256 .bf16) (harg10 : arg10.IsWhole)

set_option maxRecDepth 65536 in
theorem body_neg (h : ¬ k0_cond1 i = 1#1) : cc0_msfp12_linear (F := F) i arg1 harg1 arg2 harg2 arg3 harg3 arg4 harg4 arg5 harg5 arg6 harg6 arg7 harg7 arg8 harg8 arg9 harg9 arg10 harg10 = prods i arg1 harg1 arg2 harg2 arg3 harg3 arg4 harg4 arg5 harg5 arg6 harg6 arg7 harg7 arg8 harg8 arg9 harg9 arg10 harg10 := by
  have e : cc0_msfp12_linear (F := F) i arg1 harg1 arg2 harg2 arg3 harg3 arg4 harg4 arg5 harg5 arg6 harg6 arg7 harg7 arg8 harg8 arg9 harg9 arg10 harg10 = (dite (k0_cond1 i = 1#1) (fun _ => quant i arg1 harg1 arg2 harg2 arg3 harg3 arg4 harg4 arg5 harg5 arg6 harg6 arg7 harg7 arg8 harg8 arg9 harg9 arg10 harg10 >>= fun _ => scales i arg1 harg1 arg2 harg2 arg3 harg3 arg4 harg4 arg5 harg5 arg6 harg6 arg7 harg7 arg8 harg8 arg9 harg9 arg10 harg10) (fun _ => scales i arg1 harg1 arg2 harg2 arg3 harg3 arg4 harg4 arg5 harg5 arg6 harg6 arg7 harg7 arg8 harg8 arg9 harg9 arg10 harg10)) >>= fun p => rest i arg1 harg1 arg2 harg2 arg3 harg3 arg4 harg4 arg5 harg5 arg6 harg6 arg7 harg7 arg8 harg8 arg9 harg9 arg10 harg10 p.1 p.2 := by
    sl_kernel_rfl
  rw [e, dif_neg h]
  rfl

set_option maxRecDepth 65536 in
theorem body_pos (h : k0_cond1 i = 1#1) : cc0_msfp12_linear (F := F) i arg1 harg1 arg2 harg2 arg3 harg3 arg4 harg4 arg5 harg5 arg6 harg6 arg7 harg7 arg8 harg8 arg9 harg9 arg10 harg10 = (do quant i arg1 harg1 arg2 harg2 arg3 harg3 arg4 harg4 arg5 harg5 arg6 harg6 arg7 harg7 arg8 harg8 arg9 harg9 arg10 harg10; prods i arg1 harg1 arg2 harg2 arg3 harg3 arg4 harg4 arg5 harg5 arg6 harg6 arg7 harg7 arg8 harg8 arg9 harg9 arg10 harg10) := by
  have e : cc0_msfp12_linear (F := F) i arg1 harg1 arg2 harg2 arg3 harg3 arg4 harg4 arg5 harg5 arg6 harg6 arg7 harg7 arg8 harg8 arg9 harg9 arg10 harg10 = (dite (k0_cond1 i = 1#1) (fun _ => quant i arg1 harg1 arg2 harg2 arg3 harg3 arg4 harg4 arg5 harg5 arg6 harg6 arg7 harg7 arg8 harg8 arg9 harg9 arg10 harg10 >>= fun _ => scales i arg1 harg1 arg2 harg2 arg3 harg3 arg4 harg4 arg5 harg5 arg6 harg6 arg7 harg7 arg8 harg8 arg9 harg9 arg10 harg10) (fun _ => scales i arg1 harg1 arg2 harg2 arg3 harg3 arg4 harg4 arg5 harg5 arg6 harg6 arg7 harg7 arg8 harg8 arg9 harg9 arg10 harg10)) >>= fun p => rest i arg1 harg1 arg2 harg2 arg3 harg3 arg4 harg4 arg5 harg5 arg6 harg6 arg7 harg7 arg8 harg8 arg9 harg9 arg10 harg10 p.1 p.2 := by
    sl_kernel_rfl
  rw [e, dif_pos h]
  sl_kernel_rfl

end Cert.KernelIdeal.Hand

end
-- ==== Proof.Quant.lean ====
/-
  What the kernel leaves in its buffers when it quantises the input, as functions of the input.
-/
module

public import proofs.«01_k».proof.Proof.Body
public import Idealize.ShloMosaic.Lib.Pipeline.Value
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The index of row `r` and lane `c` of a group. -/
def at128 (r : ℕ) (hr : r < 256) (c : ℕ) (hc : c < 128) : S256x128.Idx := fun a => match a with | ⟨0, _⟩ => ⟨r, hr⟩ | ⟨1, _⟩ => ⟨c, hc⟩
/-- The index of row `r` and lane `c` of 96. -/
def at96 (r : ℕ) (hr : r < 256) (c : ℕ) (hc : c < 96) : S256x96.Idx := fun a => match a with | ⟨0, _⟩ => ⟨r, hr⟩ | ⟨1, _⟩ => ⟨c, hc⟩
/-- The index of row `r` and column `c` of the input. -/
def at3584 (r : ℕ) (hr : r < 256) (c : ℕ) (hc : c < 3584) : S256x3584.Idx := fun a => match a with | ⟨0, _⟩ => ⟨r, hr⟩ | ⟨1, _⟩ => ⟨c, hc⟩

/-- Group `g` of the input (past the last one, the last). -/
def grp (x : Vec F S256x3584 .bf16) (g : ℕ) : Vec F S256x128 .bf16 :=
  fun j => x (at3584 (j 0).val (j 0).isLt (128 * (min g 27) + (j 1).val) (by have := (j 1).isLt; have : (j 1).val < 128 := this; omega))

/-- The operand of the products. -/
def XOP (x : Vec F S256x3584 .bf16) : Vec F S256x3584 .bf16 := fun y =>
  operandOf (grp x ((y 1).val / 128)) (at128 (y 0).val (y 0).isLt ((y 1).val % 128) (Nat.mod_lt _ (by omega)))
/-- The packed codes. -/
def XP (x : Vec F S256x3584 .bf16) : Vec F S256x1792 .i8 := fun y =>
  bytesOf (grp x (2 * ((y 1).val / 128))) (grp x (2 * ((y 1).val / 128) + 1)) (at128 (y 0).val (y 0).isLt ((y 1).val % 128) (Nat.mod_lt _ (by omega)))
/-- The first sixteen groups' exponents. -/
def XElo (x : Vec F S256x3584 .bf16) : IVec S256x128 8 :=
  expsLo (placed (expsOf (grp x 0)) [(1#32, grp x 1), (2#32, grp x 2), (3#32, grp x 3), (4#32, grp x 4), (5#32, grp x 5), (6#32, grp x 6), (7#32, grp x 7), (8#32, grp x 8), (9#32, grp x 9), (10#32, grp x 10), (11#32, grp x 11), (12#32, grp x 12), (13#32, grp x 13), (14#32, grp x 14), (15#32, grp x 15)])
/-- The last twelve groups' exponents. -/
def XEhi (x : Vec F S256x3584 .bf16) : IVec S256x96 8 :=
  expsHi (placed (expsOf (grp x 16)) [(1#32, grp x 17), (2#32, grp x 18), (3#32, grp x 19), (4#32, grp x 20), (5#32, grp x 21), (6#32, grp x 22), (7#32, grp x 23), (8#32, grp x 24), (9#32, grp x 25), (10#32, grp x 26), (11#32, grp x 27)])
/-- The block exponents. -/
def XE (x : Vec F S256x3584 .bf16) : Vec F S256x224 .i8 := fun y =>
  if h : (y 1).val < 128 then XElo x (at128 (y 0).val (y 0).isLt (y 1).val h)
  else XEhi x (at96 (y 0).val (y 0).isLt ((y 1).val - 128) (by have : (y 1).val < 224 := (y 1).isLt; omega))

/-- What writes leave that cover the buffer and are all pieces of one function. -/
theorem held {κ : Kind} {sp : Space} {s : Shape} {e : EltTy} (v : View sig κ sp s e) (f : v.ty.Contents (Elt F)) (L : List (View.Piece (Elt F) s e))
    (G : s.Idx → Elt F e) (cov : ∀ y, ∃ p ∈ L, y ∈ p.1.set) (hL : ∀ p ∈ L, ∀ x : p.1.shape.Idx, p.2 x = G (p.1.emb x)) :
    v.read (Elt F) (v.writes (Elt F) f L) = G :=
  (View.read_writes_eq_canon v f L cov).trans (funext fun y => View.canon_apply_of_pieces G L hL y (cov y))

theorem read_group {arg1 : Memref sig .tc .vmem S256x3584 .bf16} (harg1 : arg1.IsWhole) (x : Vec F S256x3584 .bf16) (o g : ℕ) (ho : o = 128 * g) (hg : g < 28)
    (inb : ∀ a, ![0, o] a + S256x128.size a ≤ S256x3584.size a) :
    View.readAt (Elt F) arg1.view (Rect.unit (s := S256x3584) ![0, o] S256x128.size inb).toLoadRect (harg1.unread x) = grp x g := by
  funext j
  rw [View.readAt_apply, harg1.read_unread]
  subst ho
  refine congrArg x (funext fun a => Fin.ext ?_)
  fin_cases a
  · show 0 + 1 * (j 0).val = (j 0).val
    omega
  · show 128 * g + 1 * (j 1).val = 128 * min g 27 + (j 1).val
    rw [Nat.min_eq_left (by omega)]; omega

theorem at128_eta (j : S256x128.Idx) (r c : ℕ) (hr : r < 256) (hc : c < 128) (h0 : r = (j 0).val) (h1 : c = (j 1).val) : at128 r hr c hc = j := by
  subst h0 h1
  funext a
  fin_cases a <;> rfl
theorem at96_eta (j : S256x96.Idx) (r c : ℕ) (hr : r < 256) (hc : c < 96) (h0 : r = (j 0).val) (h1 : c = (j 1).val) : at96 r hr c hc = j := by
  subst h0 h1
  funext a
  fin_cases a <;> rfl

theorem xop_piece (x : Vec F S256x3584 .bf16) (o g : ℕ) (ho : o = 128 * g) (inb : ∀ a, ![0, o] a + S256x128.size a ≤ S256x3584.size a)
    (v : Vec F S256x128 .bf16) (hv : v = grp x g) (j : (Rect.unit (s := S256x3584) ![0, o] S256x128.size inb).shape.Idx) :
    operandOf v j = XOP x ((Rect.unit (s := S256x3584) ![0, o] S256x128.size inb).emb j) := by
  subst ho hv
  have h1 : (j 1).val < 128 := (j 1).isLt
  have e1 : (((Rect.unit (s := S256x3584) ![0, 128 * g] S256x128.size inb).emb j) 1).val = 128 * g + 1 * (j 1).val := rfl
  have e0 : (((Rect.unit (s := S256x3584) ![0, 128 * g] S256x128.size inb).emb j) 0).val = 0 + 1 * (j 0).val := rfl
  unfold XOP
  have hd : (((Rect.unit (s := S256x3584) ![0, 128 * g] S256x128.size inb).emb j) 1).val / 128 = g := by rw [e1]; omega
  rw [hd]
  exact congrArg _ (at128_eta j _ _ _ _ (by rw [e0]; omega) (by rw [e1]; omega)).symm

theorem xp_piece (x : Vec F S256x3584 .bf16) (o g : ℕ) (ho : o = 128 * g) (inb : ∀ a, ![0, o] a + S256x128.size a ≤ S256x1792.size a)
    (v w : Vec F S256x128 .bf16) (hv : v = grp x (2 * g)) (hw : w = grp x (2 * g + 1)) (j : (Rect.unit (s := S256x1792) ![0, o] S256x128.size inb).shape.Idx) :
    bytesOf v w j = XP x ((Rect.unit (s := S256x1792) ![0, o] S256x128.size inb).emb j) := by
  subst ho hv hw
  have h1 : (j 1).val < 128 := (j 1).isLt
  have e1 : (((Rect.unit (s := S256x1792) ![0, 128 * g] S256x128.size inb).emb j) 1).val = 128 * g + 1 * (j 1).val := rfl
  have e0 : (((Rect.unit (s := S256x1792) ![0, 128 * g] S256x128.size inb).emb j) 0).val = 0 + 1 * (j 0).val := rfl
  unfold XP
  have hd : (((Rect.unit (s := S256x1792) ![0, 128 * g] S256x128.size inb).emb j) 1).val / 128 = g := by rw [e1]; omega
  rw [hd]
  exact congrArg _ (at128_eta j _ _ _ _ (by rw [e0]; omega) (by rw [e1]; omega)).symm

theorem xe_lo (x : Vec F S256x3584 .bf16) (inb : ∀ a, ![0, 0] a + S256x128.size a ≤ S256x224.size a)
    (j : (Rect.unit (s := S256x224) ![0, 0] S256x128.size inb).shape.Idx) :
    XElo x j = XE x ((Rect.unit (s := S256x224) ![0, 0] S256x128.size inb).emb j) := by
  have h1 : (j 1).val < 128 := (j 1).isLt
  have e1 : (((Rect.unit (s := S256x224) ![0, 0] S256x128.size inb).emb j) 1).val = 0 + 1 * (j 1).val := rfl
  have e0 : (((Rect.unit (s := S256x224) ![0, 0] S256x128.size inb).emb j) 0).val = 0 + 1 * (j 0).val := rfl
  unfold XE
  rw [dif_pos (by rw [e1]; omega)]
  exact congrArg _ (at128_eta j _ _ _ _ (by rw [e0]; omega) (by rw [e1]; omega)).symm

theorem xe_hi (x : Vec F S256x3584 .bf16) (inb : ∀ a, ![0, 128] a + S256x96.size a ≤ S256x224.size a)
    (j : (Rect.unit (s := S256x224) ![0, 128] S256x96.size inb).shape.Idx) :
    XEhi x j = XE x ((Rect.unit (s := S256x224) ![0, 128] S256x96.size inb).emb j) := by
  have h1 : (j 1).val < 96 := (j 1).isLt
  have e1 : (((Rect.unit (s := S256x224) ![0, 128] S256x96.size inb).emb j) 1).val = 128 + 1 * (j 1).val := rfl
  have e0 : (((Rect.unit (s := S256x224) ![0, 128] S256x96.size inb).emb j) 0).val = 0 + 1 * (j 0).val := rfl
  unfold XE
  rw [dif_neg (by rw [e1]; omega)]
  exact congrArg _ (at96_eta j _ _ _ _ (by rw [e0]; omega) (by rw [e1]; omega)).symm

set_option maxHeartbeats 2000000 in
theorem quant_run (c : Dev nD) (i : grid0.Coords) (arg1 : Memref sig .tc .vmem S256x3584 .bf16) (harg1 : arg1.IsWhole) (arg2 : Memref sig .tc .vmem S256x3584 .i8) (harg2 : arg2.IsWhole) (arg3 : Memref sig .tc .vmem S256x224 .i8) (harg3 : arg3.IsWhole) (arg4 : Memref sig .tc .vmem S256x224 .i8) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (arg10 : Memref sig .tc .vmem S2x256x256 .bf16) (harg10 : arg10.IsWhole)
    (x : Vec F S256x3584 .bf16) (E : Set ℕ) (K : PUnit → sProp 𝕄) :
    iprop(owns (c : Thread nD τ) arg1 fullShare x ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x ∗ owns (c : Thread nD τ) arg7 fullShare (XP x) ∗ owns (c : Thread nD τ) arg8 fullShare (XE x)
            ∗ owns (c : Thread nD τ) arg9 fullShare (XOP x)) -∗ K ⟨⟩))
      ⊢ wp frame (wpE (defs₀ (F := F)) Variants.none c none) E (quant i arg1 harg1 arg2 harg2 arg3 harg3 arg4 harg4 arg5 harg5 arg6 harg6 arg7 harg7 arg8 harg8 arg9 harg9 arg10 harg10) K := by
  unfold quant owns
  iintro ⟨⟨%f1, %hf1, H1⟩, ⟨%d7, %f7, -, H7⟩, ⟨%d8, %f8, -, H8⟩, ⟨%d9, %f9, -, H9⟩, Hk⟩
  obtain rfl := harg1.eq_unread hf1
  sl_exec
  sl_step
  iapply Hk
  isplitl [H1]
  · iexists _; isplitr; · ipureintro; exact harg1.read_unread _
    iexact H1
  isplitl [H7]
  · iexists _; isplitr; swap; · iexact H7
    ipureintro
    refine held _ _ _ _ (View.cover_of_tiledL _ S256x128.size (by sl_kernel_rfl)) ?_
    refine List.forall_mem_cons.2 ⟨xp_piece x 1664 13 rfl inb_S256x1792_S256x128_0_1664 _ _ (read_group harg1 x 3328 26 rfl (by decide) inb_S256x3584_S256x128_0_3328) (read_group harg1 x 3456 27 rfl (by decide) inb_S256x3584_S256x128_0_3456), ?_⟩
    refine List.forall_mem_cons.2 ⟨xp_piece x 1536 12 rfl inb_S256x1792_S256x128_0_1536 _ _ (read_group harg1 x 3072 24 rfl (by decide) inb_S256x3584_S256x128_0_3072) (read_group harg1 x 3200 25 rfl (by decide) inb_S256x3584_S256x128_0_3200), ?_⟩
    refine List.forall_mem_cons.2 ⟨xp_piece x 1408 11 rfl inb_S256x1792_S256x128_0_1408 _ _ (read_group harg1 x 2816 22 rfl (by decide) inb_S256x3584_S256x128_0_2816) (read_group harg1 x 2944 23 rfl (by decide) inb_S256x3584_S256x128_0_2944), ?_⟩
    refine List.forall_mem_cons.2 ⟨xp_piece x 1280 10 rfl inb_S256x1792_S256x128_0_1280 _ _ (read_group harg1 x 2560 20 rfl (by decide) inb_S256x3584_S256x128_0_2560) (read_group harg1 x 2688 21 rfl (by decide) inb_S256x3584_S256x128_0_2688), ?_⟩
    refine List.forall_mem_cons.2 ⟨xp_piece x 1152 9 rfl inb_S256x1792_S256x128_0_1152 _ _ (read_group harg1 x 2304 18 rfl (by decide) inb_S256x3584_S256x128_0_2304) (read_group harg1 x 2432 19 rfl (by decide) inb_S256x3584_S256x128_0_2432), ?_⟩
    refine List.forall_mem_cons.2 ⟨xp_piece x 1024 8 rfl inb_S256x1792_S256x128_0_1024 _ _ (read_group harg1 x 2048 16 rfl (by decide) inb_S256x3584_S256x128_0_2048) (read_group harg1 x 2176 17 rfl (by decide) inb_S256x3584_S256x128_0_2176), ?_⟩
    refine List.forall_mem_cons.2 ⟨xp_piece x 896 7 rfl inb_S256x1792_S256x128_0_896 _ _ (read_group harg1 x 1792 14 rfl (by decide) inb_S256x3584_S256x128_0_1792) (read_group harg1 x 1920 15 rfl (by decide) inb_S256x3584_S256x128_0_1920), ?_⟩
    refine List.forall_mem_cons.2 ⟨xp_piece x 768 6 rfl inb_S256x1792_S256x128_0_768 _ _ (read_group harg1 x 1536 12 rfl (by decide) inb_S256x3584_S256x128_0_1536) (read_group harg1 x 1664 13 rfl (by decide) inb_S256x3584_S256x128_0_1664), ?_⟩
    refine List.forall_mem_cons.2 ⟨xp_piece x 640 5 rfl inb_S256x1792_S256x128_0_640 _ _ (read_group harg1 x 1280 10 rfl (by decide) inb_S256x3584_S256x128_0_1280) (read_group harg1 x 1408 11 rfl (by decide) inb_S256x3584_S256x128_0_1408), ?_⟩
    refine List.forall_mem_cons.2 ⟨xp_piece x 512 4 rfl inb_S256x1792_S256x128_0_512 _ _ (read_group harg1 x 1024 8 rfl (by decide) inb_S256x3584_S256x128_0_1024) (read_group harg1 x 1152 9 rfl (by decide) inb_S256x3584_S256x128_0_1152), ?_⟩
    refine List.forall_mem_cons.2 ⟨xp_piece x 384 3 rfl inb_S256x1792_S256x128_0_384 _ _ (read_group harg1 x 768 6 rfl (by decide) inb_S256x3584_S256x128_0_768) (read_group harg1 x 896 7 rfl (by decide) inb_S256x3584_S256x128_0_896), ?_⟩
    refine List.forall_mem_cons.2 ⟨xp_piece x 256 2 rfl inb_S256x1792_S256x128_0_256 _ _ (read_group harg1 x 512 4 rfl (by decide) inb_S256x3584_S256x128_0_512) (read_group harg1 x 640 5 rfl (by decide) inb_S256x3584_S256x128_0_640), ?_⟩
    refine List.forall_mem_cons.2 ⟨xp_piece x 128 1 rfl inb_S256x1792_S256x128_0_128 _ _ (read_group harg1 x 256 2 rfl (by decide) inb_S256x3584_S256x128_0_256) (read_group harg1 x 384 3 rfl (by decide) inb_S256x3584_S256x128_0_384), ?_⟩
    refine List.forall_mem_cons.2 ⟨xp_piece x 0 0 rfl inb_S256x1792_S256x128_0_0 _ _ (read_group harg1 x 0 0 rfl (by decide) inb_S256x3584_S256x128_0_0) (read_group harg1 x 128 1 rfl (by decide) inb_S256x3584_S256x128_0_128), ?_⟩
    exact fun _ h => absurd h List.not_mem_nil
  isplitl [H8]
  · iexists _; isplitr; swap; · iexact H8
    ipureintro
    refine held _ _ _ _ (View.cover_of_tiledBy _ ![256, 32] (by sl_kernel_rfl)) ?_
    simp only [read_group harg1 x 0 0 rfl (by decide), read_group harg1 x 128 1 rfl (by decide), read_group harg1 x 256 2 rfl (by decide), read_group harg1 x 384 3 rfl (by decide), read_group harg1 x 512 4 rfl (by decide), read_group harg1 x 640 5 rfl (by decide), read_group harg1 x 768 6 rfl (by decide), read_group harg1 x 896 7 rfl (by decide), read_group harg1 x 1024 8 rfl (by decide), read_group harg1 x 1152 9 rfl (by decide), read_group harg1 x 1280 10 rfl (by decide), read_group harg1 x 1408 11 rfl (by decide), read_group harg1 x 1536 12 rfl (by decide), read_group harg1 x 1664 13 rfl (by decide), read_group harg1 x 1792 14 rfl (by decide), read_group harg1 x 1920 15 rfl (by decide), read_group harg1 x 2048 16 rfl (by decide), read_group harg1 x 2176 17 rfl (by decide), read_group harg1 x 2304 18 rfl (by decide), read_group harg1 x 2432 19 rfl (by decide), read_group harg1 x 2560 20 rfl (by decide), read_group harg1 x 2688 21 rfl (by decide), read_group harg1 x 2816 22 rfl (by decide), read_group harg1 x 2944 23 rfl (by decide), read_group harg1 x 3072 24 rfl (by decide), read_group harg1 x 3200 25 rfl (by decide), read_group harg1 x 3328 26 rfl (by decide), read_group harg1 x 3456 27 rfl (by decide)]
    refine List.forall_mem_cons.2 ⟨xe_hi x inb_S256x224_S256x96_0_128, ?_⟩
    refine List.forall_mem_cons.2 ⟨xe_lo x inb_S256x224_S256x128_0_0, ?_⟩
    exact fun _ h => absurd h List.not_mem_nil
  · iexists _; isplitr; swap; · iexact H9
    ipureintro
    refine held _ _ _ _ (View.cover_of_tiledL _ S256x128.size (by sl_kernel_rfl)) ?_
    refine List.forall_mem_cons.2 ⟨xop_piece x 3456 27 rfl inb_S256x3584_S256x128_0_3456 _ (read_group harg1 x 3456 27 rfl (by decide) inb_S256x3584_S256x128_0_3456), ?_⟩
    refine List.forall_mem_cons.2 ⟨xop_piece x 3328 26 rfl inb_S256x3584_S256x128_0_3328 _ (read_group harg1 x 3328 26 rfl (by decide) inb_S256x3584_S256x128_0_3328), ?_⟩
    refine List.forall_mem_cons.2 ⟨xop_piece x 3200 25 rfl inb_S256x3584_S256x128_0_3200 _ (read_group harg1 x 3200 25 rfl (by decide) inb_S256x3584_S256x128_0_3200), ?_⟩
    refine List.forall_mem_cons.2 ⟨xop_piece x 3072 24 rfl inb_S256x3584_S256x128_0_3072 _ (read_group harg1 x 3072 24 rfl (by decide) inb_S256x3584_S256x128_0_3072), ?_⟩
    refine List.forall_mem_cons.2 ⟨xop_piece x 2944 23 rfl inb_S256x3584_S256x128_0_2944 _ (read_group harg1 x 2944 23 rfl (by decide) inb_S256x3584_S256x128_0_2944), ?_⟩
    refine List.forall_mem_cons.2 ⟨xop_piece x 2816 22 rfl inb_S256x3584_S256x128_0_2816 _ (read_group harg1 x 2816 22 rfl (by decide) inb_S256x3584_S256x128_0_2816), ?_⟩
    refine List.forall_mem_cons.2 ⟨xop_piece x 2688 21 rfl inb_S256x3584_S256x128_0_2688 _ (read_group harg1 x 2688 21 rfl (by decide) inb_S256x3584_S256x128_0_2688), ?_⟩
    refine List.forall_mem_cons.2 ⟨xop_piece x 2560 20 rfl inb_S256x3584_S256x128_0_2560 _ (read_group harg1 x 2560 20 rfl (by decide) inb_S256x3584_S256x128_0_2560), ?_⟩
    refine List.forall_mem_cons.2 ⟨xop_piece x 2432 19 rfl inb_S256x3584_S256x128_0_2432 _ (read_group harg1 x 2432 19 rfl (by decide) inb_S256x3584_S256x128_0_2432), ?_⟩
    refine List.forall_mem_cons.2 ⟨xop_piece x 2304 18 rfl inb_S256x3584_S256x128_0_2304 _ (read_group harg1 x 2304 18 rfl (by decide) inb_S256x3584_S256x128_0_2304), ?_⟩
    refine List.forall_mem_cons.2 ⟨xop_piece x 2176 17 rfl inb_S256x3584_S256x128_0_2176 _ (read_group harg1 x 2176 17 rfl (by decide) inb_S256x3584_S256x128_0_2176), ?_⟩
    refine List.forall_mem_cons.2 ⟨xop_piece x 2048 16 rfl inb_S256x3584_S256x128_0_2048 _ (read_group harg1 x 2048 16 rfl (by decide) inb_S256x3584_S256x128_0_2048), ?_⟩
    refine List.forall_mem_cons.2 ⟨xop_piece x 1920 15 rfl inb_S256x3584_S256x128_0_1920 _ (read_group harg1 x 1920 15 rfl (by decide) inb_S256x3584_S256x128_0_1920), ?_⟩
    refine List.forall_mem_cons.2 ⟨xop_piece x 1792 14 rfl inb_S256x3584_S256x128_0_1792 _ (read_group harg1 x 1792 14 rfl (by decide) inb_S256x3584_S256x128_0_1792), ?_⟩
    refine List.forall_mem_cons.2 ⟨xop_piece x 1664 13 rfl inb_S256x3584_S256x128_0_1664 _ (read_group harg1 x 1664 13 rfl (by decide) inb_S256x3584_S256x128_0_1664), ?_⟩
    refine List.forall_mem_cons.2 ⟨xop_piece x 1536 12 rfl inb_S256x3584_S256x128_0_1536 _ (read_group harg1 x 1536 12 rfl (by decide) inb_S256x3584_S256x128_0_1536), ?_⟩
    refine List.forall_mem_cons.2 ⟨xop_piece x 1408 11 rfl inb_S256x3584_S256x128_0_1408 _ (read_group harg1 x 1408 11 rfl (by decide) inb_S256x3584_S256x128_0_1408), ?_⟩
    refine List.forall_mem_cons.2 ⟨xop_piece x 1280 10 rfl inb_S256x3584_S256x128_0_1280 _ (read_group harg1 x 1280 10 rfl (by decide) inb_S256x3584_S256x128_0_1280), ?_⟩
    refine List.forall_mem_cons.2 ⟨xop_piece x 1152 9 rfl inb_S256x3584_S256x128_0_1152 _ (read_group harg1 x 1152 9 rfl (by decide) inb_S256x3584_S256x128_0_1152), ?_⟩
    refine List.forall_mem_cons.2 ⟨xop_piece x 1024 8 rfl inb_S256x3584_S256x128_0_1024 _ (read_group harg1 x 1024 8 rfl (by decide) inb_S256x3584_S256x128_0_1024), ?_⟩
    refine List.forall_mem_cons.2 ⟨xop_piece x 896 7 rfl inb_S256x3584_S256x128_0_896 _ (read_group harg1 x 896 7 rfl (by decide) inb_S256x3584_S256x128_0_896), ?_⟩
    refine List.forall_mem_cons.2 ⟨xop_piece x 768 6 rfl inb_S256x3584_S256x128_0_768 _ (read_group harg1 x 768 6 rfl (by decide) inb_S256x3584_S256x128_0_768), ?_⟩
    refine List.forall_mem_cons.2 ⟨xop_piece x 640 5 rfl inb_S256x3584_S256x128_0_640 _ (read_group harg1 x 640 5 rfl (by decide) inb_S256x3584_S256x128_0_640), ?_⟩
    refine List.forall_mem_cons.2 ⟨xop_piece x 512 4 rfl inb_S256x3584_S256x128_0_512 _ (read_group harg1 x 512 4 rfl (by decide) inb_S256x3584_S256x128_0_512), ?_⟩
    refine List.forall_mem_cons.2 ⟨xop_piece x 384 3 rfl inb_S256x3584_S256x128_0_384 _ (read_group harg1 x 384 3 rfl (by decide) inb_S256x3584_S256x128_0_384), ?_⟩
    refine List.forall_mem_cons.2 ⟨xop_piece x 256 2 rfl inb_S256x3584_S256x128_0_256 _ (read_group harg1 x 256 2 rfl (by decide) inb_S256x3584_S256x128_0_256), ?_⟩
    refine List.forall_mem_cons.2 ⟨xop_piece x 128 1 rfl inb_S256x3584_S256x128_0_128 _ (read_group harg1 x 128 1 rfl (by decide) inb_S256x3584_S256x128_0_128), ?_⟩
    refine List.forall_mem_cons.2 ⟨xop_piece x 0 0 rfl inb_S256x3584_S256x128_0_0 _ (read_group harg1 x 0 0 rfl (by decide) inb_S256x3584_S256x128_0_0), ?_⟩
    exact fun _ h => absurd h List.not_mem_nil

end Cert.KernelIdeal.Hand

end
-- ==== Proof.Lanes.lean ====
/-
  The named steps at an index: lane numbers, gathers along the lanes, and what a decoded weight depends on.
-/
module

public import proofs.«01_k».proof.Proof.Quant

@[expose] public section

set_option maxRecDepth 16384

noncomputable section

namespace Cert.KernelIdeal.Hand

open Idealize.ShloMosaic Idealize.ShloMosaic.TcCoe
open Cert.KernelIdeal Cert.KernelIdeal.Gen

variable {F : FTy → Type} [FloatOps F]

theorem lane_apply (i : S256x128.Idx) : lane i = BitVec.ofNat 32 (i 1).val := by
  unfold lane iota
  show BitVec.ofNat 32 (0 * S256x128.size 1 + (i 1).val) = _
  rw [Nat.zero_mul, Nat.zero_add]

theorem word_apply (b : BitVec 32) (i : S256x128.Idx) : word b i = b := rfl

theorem laneDiv_word (n : ℕ) (hn : n = 8 ∨ n = 16) (c : Fin 128) :
    Scalar.select
      (Scalar.andi
        (Scalar.cmpi .ne
          (Scalar.subi (Scalar.extui (Scalar.cmpi .sgt (BitVec.ofNat 32 c.val) 0#32)) (Scalar.extui (Scalar.cmpi .slt (BitVec.ofNat 32 c.val) 0#32)))
          (Scalar.subi (Scalar.extui (Scalar.cmpi .sgt (BitVec.ofNat 32 n) 0#32)) (Scalar.extui (Scalar.cmpi .slt (BitVec.ofNat 32 n) 0#32)) : BitVec 32))
        (Scalar.cmpi .ne (IntOp.remsi ArithUnit.vector (BitVec.ofNat 32 c.val) (BitVec.ofNat 32 n)) 0#32))
      (Scalar.subi (IntOp.divsi ArithUnit.vector (BitVec.ofNat 32 c.val) (BitVec.ofNat 32 n)) 1#32) (IntOp.divsi ArithUnit.vector (BitVec.ofNat 32 c.val) (BitVec.ofNat 32 n))
      = BitVec.ofNat 32 (c.val / n) := by
  rcases hn with rfl | rfl <;> revert c <;> decide +kernel

theorem laneDiv_apply (n : ℕ) (hn : n = 8 ∨ n = 16) (i : S256x128.Idx) : laneDiv (BitVec.ofNat 32 n) i = BitVec.ofNat 32 ((i 1).val / n) := by
  refine Eq.trans ?_ (laneDiv_word n hn (i 1))
  unfold laneDiv
  simp only [select, andi, cmpi, subi, extui, remsi, divsi, lane_apply, word_apply]
  rfl

theorem lanes_apply (v : IVec S256x128 32) (i : S256x128.Idx) (c : ℕ) (hc : c < 128) (h : v i = BitVec.ofNat 32 c) :
    lanes v i = BitVec.ofNat 32 c := by
  have e : lanes v i = (select (cmpi .slt v (word 0#32)) (addi v (word 128#32)) v) i := by
    exact congrFun (shapeCast_shapeCast _ _ _) i
  rw [e]
  simp only [select, cmpi, addi, word_apply, h]
  have : ∀ c : Fin 128, Scalar.select (Scalar.cmpi .slt (BitVec.ofNat 32 c.val) 0#32) (Scalar.addi (BitVec.ofNat 32 c.val) 128#32) (BitVec.ofNat 32 c.val)
      = BitVec.ofNat 32 c.val := by decide +kernel
  exact this ⟨c, hc⟩

/-- The same row, lane `c`. -/
def atLane (c : ℕ) (h : c < 128) (i : S256x128.Idx) : S256x128.Idx := fun b =>
  match b with
  | ⟨0, _⟩ => i 0
  | ⟨1, _⟩ => ⟨c, h⟩

theorem gather_at {α : Type} (v : S256x128.Idx → α) (idx : IVec S256x128 32) (i : S256x128.Idx) (c : ℕ) (hc : c < 128)
    (h : idx i = BitVec.ofNat 32 c) : dynamicGather (s := S256x128) 1 v idx i = v (atLane c hc i) := by
  refine congrArg v (funext fun b => ?_)
  match b with
  | ⟨0, _⟩ => rfl
  | ⟨1, _⟩ =>
    refine Fin.ext ?_
    show (idx i).toNat % 128 = c
    rw [h, BitVec.toNat_ofNat]
    omega

theorem gather_apply (v idx : IVec S256x128 32) (i : S256x128.Idx) (c : ℕ) (hc : c < 128) (h : idx i = BitVec.ofNat 32 c) :
    gather v idx i = v (atLane c hc i) := gather_at v _ i c hc (lanes_apply idx i c hc h)

theorem gather16_apply (v : FVec F S256x128 .bf16) (idx : IVec S256x128 32) (i : S256x128.Idx) (c : ℕ) (hc : c < 128)
    (h : idx i = BitVec.ofNat 32 c) :
    gather16 v idx i = FloatOps.truncf .bf16 bitsLt_bf16_f32 (FloatOps.extf .f32 bitsLt_bf16_f32 (v (atLane c hc i))) := by
  have := gather_at (extf .f32 v bitsLt_bf16_f32) _ i c hc (lanes_apply idx i c hc h)
  exact congrArg (fun z => FloatOps.truncf .bf16 bitsLt_bf16_f32 z) this

/-- An index of the group, with the unit axis in front. -/
def at1 (i : S256x128.Idx) : S1x256x128.Idx := fun b =>
  match b with
  | ⟨0, _⟩ => ⟨0, Nat.one_pos⟩
  | ⟨1, _⟩ => i 0
  | ⟨2, _⟩ => i 1

theorem lead_apply {α : Type} (s : S1x256x128.Idx → α) (i : S256x128.Idx) :
    shapeCast S256x128 s shapeCasts_S1x256x128_S256x128 i = s (at1 i) := by
  refine shapeCast_apply s _ i (at1 i) ?_
  rw [Shape.rowMajor_val_three, Shape.rowMajor_val_two]
  show (0 * 256 + (i 0).val) * 128 + (i 1).val = (i 0).val * 128 + (i 1).val
  omega

theorem block_lane (i : S256x128.Idx) (k : ℕ) (hk : k ≤ 120) :
    addi (laneDiv 16#32) (word (BitVec.ofNat 32 k)) i = BitVec.ofNat 32 ((i 1).val / 16 + k) := by
  have h := laneDiv_apply 16 (Or.inr rfl) i
  show BitVec.add (laneDiv 16#32 i) (BitVec.ofNat 32 k) = _
  rw [h]
  exact (BitVec.ofNat_add ..).symm

/-- A decoded group depends only on the scales of the lanes it gathers from. -/
theorem decode_congr (q : IVec S64x128 32) (k : ℕ) (hk : k ≤ 88) (s s' : Vec F S1x256x128 .bf16)
    (h : ∀ j : S1x256x128.Idx, (j 2).val < 96 → s j = s' j) :
    decode q (BitVec.ofNat 32 k) s = decode q (BitVec.ofNat 32 k) s' := by
  unfold decode
  refine congrArg (mulf _) (funext fun i => ?_)
  have hi : (i 1).val < 128 := (i 1).isLt
  rw [gather16_apply _ _ i ((i 1).val / 16 + k) (by omega) (block_lane i k (by omega)), gather16_apply _ _ i ((i 1).val / 16 + k) (by omega) (block_lane i k (by omega)),
    lead_apply, lead_apply, h]
  show (i 1).val / 16 + k < 96
  omega

end Cert.KernelIdeal.Hand

end
-- ==== Proof.Prods.lean ====
/-
  What the kernel leaves in its buffers when it multiplies, as functions of the operand, the weights and their scales.
-/
module

public import proofs.«01_k».proof.Proof.Lanes
public import Idealize.ShloMosaic.Lib.Pipeline.ReadBack
public import Idealize.ShloMosaic.Lib.WritesUnit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- Group `g` of the weights (past the last one, the last). -/
def wgrp (x : Vec F S256x3584 .i8) (g : ℕ) : Vec F S256x128 .i8 :=
  fun j => x (at3584 (j 0).val (j 0).isLt (128 * (min g 27) + (j 1).val) (by have := (j 1).isLt; have : (j 1).val < 128 := this; omega))

/-- Columns `256 k` to `256 k + 255` of the operand (past the last tile, the last). -/
def xtile (x : Vec F S256x3584 .bf16) (k : ℕ) : Vec F S256x256 .bf16 :=
  fun j => x (at3584 (j 0).val (j 0).isLt (256 * (min k 13) + (j 1).val) (by have := (j 1).isLt; have : (j 1).val < 256 := this; omega))

/-- The 128 lanes of scales that hold group `g`'s: the first 128, or the last 96 and zeros. -/
def srow (e : Vec F S256x224 .i8) (g : ℕ) : Vec F S1x256x128 .bf16 := fun j =>
  if g < 16 then scaleLo e j
  else if h : (j 2).val < 96 then scaleHi e (fun a => match a with | ⟨0, _⟩ => ⟨0, Nat.one_pos⟩ | ⟨1, _⟩ => ⟨(j 1).val, (j 1).isLt⟩ | ⟨2, _⟩ => ⟨(j 2).val, h⟩)
  else Scalar.ofBits .bf16 0x0000#16

/-- The sum of the first `n` tiles' products. -/
def tiles (d : ℕ → FVec F S256x128 .bf16) (xo : Vec F S256x3584 .bf16) : ℕ → FVec F S256x256 .f32
  | 0 => none₀
  | n + 1 => tile (tiles d xo n) (xtile xo n) (d (2 * n)) (d (2 * n + 1))

/-- The low halves' product. -/
def YLO (w : Vec F S256x3584 .i8) (e : Vec F S256x224 .i8) (xo : Vec F S256x3584 .bf16) : Vec F S256x256 .bf16 :=
  stored (tiles (fun g => decode (lowBits (words (wgrp w g))) (BitVec.ofNat 32 (8 * (g % 16))) (srow e g)) xo 14)
/-- The high halves'. -/
def YHI (w : Vec F S256x3584 .i8) (e : Vec F S256x224 .i8) (xo : Vec F S256x3584 .bf16) : Vec F S256x256 .bf16 :=
  stored (tiles (fun g => decode (highBits (words (wgrp w g))) (BitVec.ofNat 32 (8 * (g % 16))) (srow e g)) xo 14)

/-- What the scales' buffer is written, last store first. -/
def kept (E0 E1 : Vec F S256x224 .i8) : List (View.Piece (Elt F) S2x256x256 .bf16) :=
  [⟨Rect.unit (s := S2x256x256) ![1, 0, 128] S1x256x96.size inb_S2x256x256_S1x256x96_1_0_128, scaleHi E1⟩,
   ⟨Rect.unit (s := S2x256x256) ![1, 0, 0] S1x256x128.size inb_S2x256x256_S1x256x128_1_0_0, scaleLo E1⟩,
   ⟨Rect.unit (s := S2x256x256) ![0, 0, 128] S1x256x96.size inb_S2x256x256_S1x256x96_0_0_128, scaleHi E0⟩,
   ⟨Rect.unit (s := S2x256x256) ![0, 0, 0] S1x256x128.size inb_S2x256x256_S1x256x128_0_0_0, scaleLo E0⟩]

theorem srow_lo (e : Vec F S256x224 .i8) (g : ℕ) (hg : g < 16) : srow e g = scaleLo e := funext fun _ => if_pos hg

theorem load_lo0 {κ : Kind} {sp : Space} (v : View sig κ sp S2x256x256 .bf16) (E0 E1 e : Vec F S256x224 .i8) (h : E0 = e) (g : ℕ) (hg : g < 16) :
    v.readCov (kept E0 E1) (Rect.unit (s := S2x256x256) ![0, 0, 0] S1x256x128.size inb_S2x256x256_S1x256x128_0_0_0).toLoadRect = srow e g := by
  subst h
  unfold kept
  rw [srow_lo _ g hg, View.readCov_skip _ _ _ _ _ (by decide), View.readCov_skip _ _ _ _ _ (by decide), View.readCov_skip _ _ _ _ _ (by decide)]
  exact View.readCov_cons_toLoadRect v _ _ _

theorem load_lo1 {κ : Kind} {sp : Space} (v : View sig κ sp S2x256x256 .bf16) (E0 E1 e : Vec F S256x224 .i8) (h : E1 = e) (g : ℕ) (hg : g < 16) :
    v.readCov (kept E0 E1) (Rect.unit (s := S2x256x256) ![1, 0, 0] S1x256x128.size inb_S2x256x256_S1x256x128_1_0_0).toLoadRect = srow e g := by
  subst h
  unfold kept
  rw [srow_lo _ g hg, View.readCov_skip _ _ _ _ _ (by decide)]
  exact View.readCov_cons_toLoadRect v _ _ _

theorem load_hi1 {κ : Kind} {sp : Space} (v : View sig κ sp S2x256x256 .bf16) (f : v.ty.Contents (Elt F)) (E0 E1 e : Vec F S256x224 .i8) (h : E1 = e)
    (g : ℕ) (hg : 16 ≤ g) (j : S1x256x128.Idx) (hj : (j 2).val < 96) :
    View.readAt (Elt F) v (Rect.unit (s := S2x256x256) ![1, 0, 128] S1x256x128.size inb_S2x256x256_S1x256x128_1_0_128).toLoadRect (v.writes (Elt F) f (kept E0 E1)) j
      = srow e g j := by
  subst h
  unfold srow
  rw [if_neg (by omega), dif_pos hj, View.readAt_apply]
  unfold kept
  refine View.read_writes_cons_unit_of_mem v _ _ _ _ _ _ rfl fun a => ?_
  have h0 : (j 0).val = 0 := by have : (j 0).val < 1 := (j 0).isLt; omega
  fin_cases a
  · show 1 + 1 * (j 0).val = 1 + 0
    omega
  · show 0 + 1 * (j 1).val = 0 + (j 1).val
    omega
  · show 128 + 1 * (j 2).val = 128 + (j 2).val
    omega

theorem load_hi0 {κ : Kind} {sp : Space} (v : View sig κ sp S2x256x256 .bf16) (f : v.ty.Contents (Elt F)) (E0 E1 e : Vec F S256x224 .i8) (h : E0 = e)
    (g : ℕ) (hg : 16 ≤ g) (j : S1x256x128.Idx) (hj : (j 2).val < 96) :
    View.readAt (Elt F) v (Rect.unit (s := S2x256x256) ![0, 0, 128] S1x256x128.size inb_S2x256x256_S1x256x128_0_0_128).toLoadRect (v.writes (Elt F) f (kept E0 E1)) j
      = srow e g j := by
  subst h
  unfold srow
  rw [if_neg (by omega), dif_pos hj, View.readAt_apply]
  unfold kept
  have h0 : (j 0).val = 0 := by have : (j 0).val < 1 := (j 0).isLt; omega
  have low : ((Rect.unit (s := S2x256x256) ![0, 0, 128] S1x256x128.size inb_S2x256x256_S1x256x128_0_0_128).toLoadRect.idx j 0).val < 1 := by
    show 0 + 1 * (j 0).val < 1
    omega
  rw [View.read_writes_cons_unit_of_not_mem v _ _ _ _ _ rfl 0 (Or.inl low), View.read_writes_cons_unit_of_not_mem v _ _ _ _ _ rfl 0 (Or.inl low)]
  refine View.read_writes_cons_unit_of_mem v _ _ _ _ _ _ rfl fun a => ?_
  fin_cases a
  · show 0 + 1 * (j 0).val = 0 + 0
    omega
  · show 0 + 1 * (j 1).val = 0 + (j 1).val
    omega
  · show 128 + 1 * (j 2).val = 128 + (j 2).val
    omega

theorem read_wgrp {arg2 : Memref sig .tc .vmem S256x3584 .i8} (harg2 : arg2.IsWhole) (x : Vec F S256x3584 .i8) (o g : ℕ) (ho : o = 128 * g) (hg : g < 28)
    (inb : ∀ a, ![0, o] a + S256x128.size a ≤ S256x3584.size a) :
    View.readAt (Elt F) arg2.view (Rect.unit (s := S256x3584) ![0, o] S256x128.size inb).toLoadRect (harg2.unread x) = wgrp x g := by
  funext j
  rw [View.readAt_apply, harg2.read_unread]
  subst ho
  refine congrArg x (funext fun a => Fin.ext ?_)
  fin_cases a
  · show 0 + 1 * (j 0).val = (j 0).val
    omega
  · show 128 * g + 1 * (j 1).val = 128 * min g 27 + (j 1).val
    rw [Nat.min_eq_left (by omega)]; omega

theorem read_xtile {arg9 : Memref sig .tc .vmem S256x3584 .bf16} (harg9 : arg9.IsWhole) (x : Vec F S256x3584 .bf16) (o k : ℕ) (ho : o = 256 * k) (hk : k < 14)
    (inb : ∀ a, ![0, o] a + S256x256.size a ≤ S256x3584.size a) :
    View.readAt (Elt F) arg9.view (Rect.unit (s := S256x3584) ![0, o] S256x256.size inb).toLoadRect (harg9.unread x) = xtile x k := by
  funext j
  rw [View.readAt_apply, harg9.read_unread]
  subst ho
  refine congrArg x (funext fun a => Fin.ext ?_)
  fin_cases a
  · show 0 + 1 * (j 0).val = (j 0).val
    omega
  · show 256 * k + 1 * (j 1).val = 256 * min k 13 + (j 1).val
    rw [Nat.min_eq_left (by omega)]; omega

theorem read_exps {arg3 : Memref sig .tc .vmem S256x224 .i8} (harg3 : arg3.IsWhole) (e : Vec F S256x224 .i8) (inb : ∀ a, ![0, 0] a + S256x224.size a ≤ S256x224.size a) :
    View.readAt (Elt F) arg3.view (Rect.unit (s := S256x224) ![0, 0] S256x224.size inb).toLoadRect (harg3.unread e) = e := by
  funext j
  rw [View.readAt_apply, harg3.read_unread]
  refine congrArg e (funext fun a => Fin.ext ?_)
  fin_cases a
  · show 0 + 1 * (j 0).val = (j 0).val
    omega
  · show 0 + 1 * (j 1).val = (j 1).val
    omega

theorem tiles_step (d : ℕ → FVec F S256x128 .bf16) (xo : Vec F S256x3584 .bf16) (n : ℕ) (acc : FVec F S256x256 .f32) (x : Vec F S256x256 .bf16)
    (a b : FVec F S256x128 .bf16) (h : acc = tiles d xo n) (hx : x = xtile xo n) (ha : a = d (2 * n)) (hb : b = d (2 * n + 1)) :
    tile acc x a b = tiles d xo (n + 1) := by
  subst h hx ha hb; rfl

theorem decode_lo (q q' : IVec S64x128 32) (hq : q = q') (k : BitVec 32) (s : Vec F S1x256x128 .bf16) (e : Vec F S256x224 .i8) (g : ℕ)
    (hk : k = BitVec.ofNat 32 (8 * (g % 16))) (hs : s = srow e g) : decode q k s = decode q' (BitVec.ofNat 32 (8 * (g % 16))) (srow e g) := by
  subst hq hk hs; rfl

theorem decode_hi (q q' : IVec S64x128 32) (hq : q = q') (k : BitVec 32) (s : Vec F S1x256x128 .bf16) (e : Vec F S256x224 .i8) (g : ℕ) (hg : g < 28) (hg' : 16 ≤ g)
    (hk : k = BitVec.ofNat 32 (8 * (g % 16))) (hs : ∀ j : S1x256x128.Idx, (j 2).val < 96 → s j = srow e g j) :
    decode q k s = decode q' (BitVec.ofNat 32 (8 * (g % 16))) (srow e g) := by
  subst hq hk
  exact decode_congr q _ (by omega) s _ hs

theorem emb_square (x : S256x256.Idx) (inb : ∀ a, ![0, 0] a + S256x256.size a ≤ S256x256.size a) :
    (Rect.unit (s := S256x256) ![0, 0] S256x256.size inb).emb x = x := by
  refine funext fun a => Fin.ext ?_
  fin_cases a
  · show 0 + 1 * (x 0).val = (x 0).val
    omega
  · show 0 + 1 * (x 1).val = (x 1).val
    omega

theorem held_square {κ : Kind} {sp : Space} (v : View sig κ sp S256x256 .bf16) (f : v.ty.Contents (Elt F)) (y G : Vec F S256x256 .bf16) (h : y = G)
    (inb : ∀ a, ![0, 0] a + S256x256.size a ≤ S256x256.size a) :
    v.read (Elt F) (v.writes (Elt F) f [⟨Rect.unit (s := S256x256) ![0, 0] S256x256.size inb, y⟩]) = G := by
  subst h
  refine held v f _ _ (fun i => ⟨_, List.mem_singleton_self _, ?_⟩) fun p hp x => ?_
  · exact View.mem_set_unit_zero (S := S256x256) (by funext a; fin_cases a <;> rfl) inb i
  · rw [List.mem_singleton] at hp
    subst hp
    exact congrArg y (emb_square x inb).symm

set_option maxHeartbeats 2000000 in
theorem prods_run (c : Dev nD) (i : grid0.Coords) (arg1 : Memref sig .tc .vmem S256x3584 .bf16) (harg1 : arg1.IsWhole) (arg2 : Memref sig .tc .vmem S256x3584 .i8) (harg2 : arg2.IsWhole) (arg3 : Memref sig .tc .vmem S256x224 .i8) (harg3 : arg3.IsWhole) (arg4 : Memref sig .tc .vmem S256x224 .i8) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (arg10 : Memref sig .tc .vmem S2x256x256 .bf16) (harg10 : arg10.IsWhole)
    (w : Vec F S256x3584 .i8) (e0 e1 : Vec F S256x224 .i8) (xo : Vec F S256x3584 .bf16) (E : Set ℕ) (K : PUnit → sProp 𝕄) :
    iprop(owns (c : Thread nD τ) arg2 fullShare w ∗ owns (c : Thread nD τ) arg3 fullShare e0 ∗ owns (c : Thread nD τ) arg4 fullShare e1
        ∗ (∃ d, owns (c : Thread nD τ) arg5 fullShare d) ∗ (∃ d, owns (c : Thread nD τ) arg6 fullShare d)
        ∗ owns (c : Thread nD τ) arg9 fullShare xo ∗ (∃ d, owns (c : Thread nD τ) arg10 fullShare d)
        ∗ (iprop(owns (c : Thread nD τ) arg2 fullShare w ∗ owns (c : Thread nD τ) arg3 fullShare e0 ∗ owns (c : Thread nD τ) arg4 fullShare e1
            ∗ owns (c : Thread nD τ) arg5 fullShare (YLO w e0 xo) ∗ owns (c : Thread nD τ) arg6 fullShare (YHI w e1 xo)
            ∗ owns (c : Thread nD τ) arg9 fullShare xo ∗ (∃ d, owns (c : Thread nD τ) arg10 fullShare d)) -∗ K ⟨⟩))
      ⊢ wp frame (wpE (defs₀ (F := F)) Variants.none c none) E (prods i arg1 harg1 arg2 harg2 arg3 harg3 arg4 harg4 arg5 harg5 arg6 harg6 arg7 harg7 arg8 harg8 arg9 harg9 arg10 harg10) K := by
  unfold prods scales rest owns
  iintro ⟨⟨%f2, %hf2, H2⟩, ⟨%f3, %hf3, H3⟩, ⟨%f4, %hf4, H4⟩, ⟨%d5, %f5, -, H5⟩, ⟨%d6, %f6, -, H6⟩, ⟨%f9, %hf9, H9⟩, ⟨%d10, %f10, -, H10⟩, Hk⟩
  obtain rfl := harg2.eq_unread hf2; obtain rfl := harg3.eq_unread hf3; obtain rfl := harg4.eq_unread hf4; obtain rfl := harg9.eq_unread hf9
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words
    refine held_square _ _ _ _ ?_ _
    refine congrArg stored ?_
    refine tiles_step _ _ 13 _ _ _ _ ?_ (read_xtile harg9 xo _ 13 rfl (by decide) _) ?_ ?_
    on_goal 3 => exact decode_hi _ _ (congrArg (fun z => lowBits (words z)) (read_wgrp harg2 w 3456 27 rfl (by decide) _)) _ _ e0 27 (by decide) (by decide) rfl (fun j hj => load_hi0 (h := read_exps harg3 e0 _) (g := 27) (hg := by decide) (j := j) (hj := hj) ..)
    on_goal 2 => exact decode_hi _ _ (congrArg (fun z => lowBits (words z)) (read_wgrp harg2 w 3328 26 rfl (by decide) _)) _ _ e0 26 (by decide) (by decide) rfl (fun j hj => load_hi0 (h := read_exps harg3 e0 _) (g := 26) (hg := by decide) (j := j) (hj := hj) ..)
    refine tiles_step _ _ 12 _ _ _ _ ?_ (read_xtile harg9 xo _ 12 rfl (by decide) _) ?_ ?_
    on_goal 3 => exact decode_hi _ _ (congrArg (fun z => lowBits (words z)) (read_wgrp harg2 w 3200 25 rfl (by decide) _)) _ _ e0 25 (by decide) (by decide) rfl (fun j hj => load_hi0 (h := read_exps harg3 e0 _) (g := 25) (hg := by decide) (j := j) (hj := hj) ..)
    on_goal 2 => exact decode_hi _ _ (congrArg (fun z => lowBits (words z)) (read_wgrp harg2 w 3072 24 rfl (by decide) _)) _ _ e0 24 (by decide) (by decide) rfl (fun j hj => load_hi0 (h := read_exps harg3 e0 _) (g := 24) (hg := by decide) (j := j) (hj := hj) ..)
    refine tiles_step _ _ 11 _ _ _ _ ?_ (read_xtile harg9 xo _ 11 rfl (by decide) _) ?_ ?_
    on_goal 3 => exact decode_hi _ _ (congrArg (fun z => lowBits (words z)) (read_wgrp harg2 w 2944 23 rfl (by decide) _)) _ _ e0 23 (by decide) (by decide) rfl (fun j hj => load_hi0 (h := read_exps harg3 e0 _) (g := 23) (hg := by decide) (j := j) (hj := hj) ..)
    on_goal 2 => exact decode_hi _ _ (congrArg (fun z => lowBits (words z)) (read_wgrp harg2 w 2816 22 rfl (by decide) _)) _ _ e0 22 (by decide) (by decide) rfl (fun j hj => load_hi0 (h := read_exps harg3 e0 _) (g := 22) (hg := by decide) (j := j) (hj := hj) ..)
    refine tiles_step _ _ 10 _ _ _ _ ?_ (read_xtile harg9 xo _ 10 rfl (by decide) _) ?_ ?_
    on_goal 3 => exact decode_hi _ _ (congrArg (fun z => lowBits (words z)) (read_wgrp harg2 w 2688 21 rfl (by decide) _)) _ _ e0 21 (by decide) (by decide) rfl (fun j hj => load_hi0 (h := read_exps harg3 e0 _) (g := 21) (hg := by decide) (j := j) (hj := hj) ..)
    on_goal 2 => exact decode_hi _ _ (congrArg (fun z => lowBits (words z)) (read_wgrp harg2 w 2560 20 rfl (by decide) _)) _ _ e0 20 (by decide) (by decide) rfl (fun j hj => load_hi0 (h := read_exps harg3 e0 _) (g := 20) (hg := by decide) (j := j) (hj := hj) ..)
    refine tiles_step _ _ 9 _ _ _ _ ?_ (read_xtile harg9 xo _ 9 rfl (by decide) _) ?_ ?_
    on_goal 3 => exact decode_hi _ _ (congrArg (fun z => lowBits (words z)) (read_wgrp harg2 w 2432 19 rfl (by decide) _)) _ _ e0 19 (by decide) (by decide) rfl (fun j hj => load_hi0 (h := read_exps harg3 e0 _) (g := 19) (hg := by decide) (j := j) (hj := hj) ..)
    on_goal 2 => exact decode_hi _ _ (congrArg (fun z => lowBits (words z)) (read_wgrp harg2 w 2304 18 rfl (by decide) _)) _ _ e0 18 (by decide) (by decide) rfl (fun j hj => load_hi0 (h := read_exps harg3 e0 _) (g := 18) (hg := by decide) (j := j) (hj := hj) ..)
    refine tiles_step _ _ 8 _ _ _ _ ?_ (read_xtile harg9 xo _ 8 rfl (by decide) _) ?_ ?_
    on_goal 3 => exact decode_hi _ _ (congrArg (fun z => lowBits (words z)) (read_wgrp harg2 w 2176 17 rfl (by decide) _)) _ _ e0 17 (by decide) (by decide) rfl (fun j hj => load_hi0 (h := read_exps harg3 e0 _) (g := 17) (hg := by decide) (j := j) (hj := hj) ..)
    on_goal 2 => exact decode_hi _ _ (congrArg (fun z => lowBits (words z)) (read_wgrp harg2 w 2048 16 rfl (by decide) _)) _ _ e0 16 (by decide) (by decide) rfl (fun j hj => load_hi0 (h := read_exps harg3 e0 _) (g := 16) (hg := by decide) (j := j) (hj := hj) ..)
    refine tiles_step _ _ 7 _ _ _ _ ?_ (read_xtile harg9 xo _ 7 rfl (by decide) _) ?_ ?_
    on_goal 3 => exact decode_lo _ _ (congrArg (fun z => lowBits (words z)) (read_wgrp harg2 w 1920 15 rfl (by decide) _)) _ _ e0 15 rfl (load_lo0 (h := read_exps harg3 e0 _) (g := 15) (hg := by decide) ..)
    on_goal 2 => exact decode_lo _ _ (congrArg (fun z => lowBits (words z)) (read_wgrp harg2 w 1792 14 rfl (by decide) _)) _ _ e0 14 rfl (load_lo0 (h := read_exps harg3 e0 _) (g := 14) (hg := by decide) ..)
    refine tiles_step _ _ 6 _ _ _ _ ?_ (read_xtile harg9 xo _ 6 rfl (by decide) _) ?_ ?_
    on_goal 3 => exact decode_lo _ _ (congrArg (fun z => lowBits (words z)) (read_wgrp harg2 w 1664 13 rfl (by decide) _)) _ _ e0 13 rfl (load_lo0 (h := read_exps harg3 e0 _) (g := 13) (hg := by decide) ..)
    on_goal 2 => exact decode_lo _ _ (congrArg (fun z => lowBits (words z)) (read_wgrp harg2 w 1536 12 rfl (by decide) _)) _ _ e0 12 rfl (load_lo0 (h := read_exps harg3 e0 _) (g := 12) (hg := by decide) ..)
    refine tiles_step _ _ 5 _ _ _ _ ?_ (read_xtile harg9 xo _ 5 rfl (by decide) _) ?_ ?_
    on_goal 3 => exact decode_lo _ _ (congrArg (fun z => lowBits (words z)) (read_wgrp harg2 w 1408 11 rfl (by decide) _)) _ _ e0 11 rfl (load_lo0 (h := read_exps harg3 e0 _) (g := 11) (hg := by decide) ..)
    on_goal 2 => exact decode_lo _ _ (congrArg (fun z => lowBits (words z)) (read_wgrp harg2 w 1280 10 rfl (by decide) _)) _ _ e0 10 rfl (load_lo0 (h := read_exps harg3 e0 _) (g := 10) (hg := by decide) ..)
    refine tiles_step _ _ 4 _ _ _ _ ?_ (read_xtile harg9 xo _ 4 rfl (by decide) _) ?_ ?_
    on_goal 3 => exact decode_lo _ _ (congrArg (fun z => lowBits (words z)) (read_wgrp harg2 w 1152 9 rfl (by decide) _)) _ _ e0 9 rfl (load_lo0 (h := read_exps harg3 e0 _) (g := 9) (hg := by decide) ..)
    on_goal 2 => exact decode_lo _ _ (congrArg (fun z => lowBits (words z)) (read_wgrp harg2 w 1024 8 rfl (by decide) _)) _ _ e0 8 rfl (load_lo0 (h := read_exps harg3 e0 _) (g := 8) (hg := by decide) ..)
    refine tiles_step _ _ 3 _ _ _ _ ?_ (read_xtile harg9 xo _ 3 rfl (by decide) _) ?_ ?_
    on_goal 3 => exact decode_lo _ _ (congrArg (fun z => lowBits (words z)) (read_wgrp harg2 w 896 7 rfl (by decide) _)) _ _ e0 7 rfl (load_lo0 (h := read_exps harg3 e0 _) (g := 7) (hg := by decide) ..)
    on_goal 2 => exact decode_lo _ _ (congrArg (fun z => lowBits (words z)) (read_wgrp harg2 w 768 6 rfl (by decide) _)) _ _ e0 6 rfl (load_lo0 (h := read_exps harg3 e0 _) (g := 6) (hg := by decide) ..)
    refine tiles_step _ _ 2 _ _ _ _ ?_ (read_xtile harg9 xo _ 2 rfl (by decide) _) ?_ ?_
    on_goal 3 => exact decode_lo _ _ (congrArg (fun z => lowBits (words z)) (read_wgrp harg2 w 640 5 rfl (by decide) _)) _ _ e0 5 rfl (load_lo0 (h := read_exps harg3 e0 _) (g := 5) (hg := by decide) ..)
    on_goal 2 => exact decode_lo _ _ (congrArg (fun z => lowBits (words z)) (read_wgrp harg2 w 512 4 rfl (by decide) _)) _ _ e0 4 rfl (load_lo0 (h := read_exps harg3 e0 _) (g := 4) (hg := by decide) ..)
    refine tiles_step _ _ 1 _ _ _ _ ?_ (read_xtile harg9 xo _ 1 rfl (by decide) _) ?_ ?_
    on_goal 3 => exact decode_lo _ _ (congrArg (fun z => lowBits (words z)) (read_wgrp harg2 w 384 3 rfl (by decide) _)) _ _ e0 3 rfl (load_lo0 (h := read_exps harg3 e0 _) (g := 3) (hg := by decide) ..)
    on_goal 2 => exact decode_lo _ _ (congrArg (fun z => lowBits (words z)) (read_wgrp harg2 w 256 2 rfl (by decide) _)) _ _ e0 2 rfl (load_lo0 (h := read_exps harg3 e0 _) (g := 2) (hg := by decide) ..)
    refine tiles_step _ _ 0 _ _ _ _ ?_ (read_xtile harg9 xo _ 0 rfl (by decide) _) ?_ ?_
    on_goal 3 => exact decode_lo _ _ (congrArg (fun z => lowBits (words z)) (read_wgrp harg2 w 128 1 rfl (by decide) _)) _ _ e0 1 rfl (load_lo0 (h := read_exps harg3 e0 _) (g := 1) (hg := by decide) ..)
    on_goal 2 => exact decode_lo _ _ (congrArg (fun z => lowBits (words z)) (read_wgrp harg2 w 0 0 rfl (by decide) _)) _ _ e0 0 rfl (load_lo0 (h := read_exps harg3 e0 _) (g := 0) (hg := by decide) ..)
    rfl
  isplitl [H6]
  · iexists _; isplitr; swap; · iexact H6
    ipureintro
    sl_unfold_words
    refine held_square _ _ _ _ ?_ _
    refine congrArg stored ?_
    refine tiles_step _ _ 13 _ _ _ _ ?_ (read_xtile harg9 xo _ 13 rfl (by decide) _) ?_ ?_
    on_goal 3 => exact decode_hi _ _ (congrArg (fun z => highBits (words z)) (read_wgrp harg2 w 3456 27 rfl (by decide) _)) _ _ e1 27 (by decide) (by decide) rfl (fun j hj => load_hi1 (h := read_exps harg4 e1 _) (g := 27) (hg := by decide) (j := j) (hj := hj) ..)
    on_goal 2 => exact decode_hi _ _ (congrArg (fun z => highBits (words z)) (read_wgrp harg2 w 3328 26 rfl (by decide) _)) _ _ e1 26 (by decide) (by decide) rfl (fun j hj => load_hi1 (h := read_exps harg4 e1 _) (g := 26) (hg := by decide) (j := j) (hj := hj) ..)
    refine tiles_step _ _ 12 _ _ _ _ ?_ (read_xtile harg9 xo _ 12 rfl (by decide) _) ?_ ?_
    on_goal 3 => exact decode_hi _ _ (congrArg (fun z => highBits (words z)) (read_wgrp harg2 w 3200 25 rfl (by decide) _)) _ _ e1 25 (by decide) (by decide) rfl (fun j hj => load_hi1 (h := read_exps harg4 e1 _) (g := 25) (hg := by decide) (j := j) (hj := hj) ..)
    on_goal 2 => exact decode_hi _ _ (congrArg (fun z => highBits (words z)) (read_wgrp harg2 w 3072 24 rfl (by decide) _)) _ _ e1 24 (by decide) (by decide) rfl (fun j hj => load_hi1 (h := read_exps harg4 e1 _) (g := 24) (hg := by decide) (j := j) (hj := hj) ..)
    refine tiles_step _ _ 11 _ _ _ _ ?_ (read_xtile harg9 xo _ 11 rfl (by decide) _) ?_ ?_
    on_goal 3 => exact decode_hi _ _ (congrArg (fun z => highBits (words z)) (read_wgrp harg2 w 2944 23 rfl (by decide) _)) _ _ e1 23 (by decide) (by decide) rfl (fun j hj => load_hi1 (h := read_exps harg4 e1 _) (g := 23) (hg := by decide) (j := j) (hj := hj) ..)
    on_goal 2 => exact decode_hi _ _ (congrArg (fun z => highBits (words z)) (read_wgrp harg2 w 2816 22 rfl (by decide) _)) _ _ e1 22 (by decide) (by decide) rfl (fun j hj => load_hi1 (h := read_exps harg4 e1 _) (g := 22) (hg := by decide) (j := j) (hj := hj) ..)
    refine tiles_step _ _ 10 _ _ _ _ ?_ (read_xtile harg9 xo _ 10 rfl (by decide) _) ?_ ?_
    on_goal 3 => exact decode_hi _ _ (congrArg (fun z => highBits (words z)) (read_wgrp harg2 w 2688 21 rfl (by decide) _)) _ _ e1 21 (by decide) (by decide) rfl (fun j hj => load_hi1 (h := read_exps harg4 e1 _) (g := 21) (hg := by decide) (j := j) (hj := hj) ..)
    on_goal 2 => exact decode_hi _ _ (congrArg (fun z => highBits (words z)) (read_wgrp harg2 w 2560 20 rfl (by decide) _)) _ _ e1 20 (by decide) (by decide) rfl (fun j hj => load_hi1 (h := read_exps harg4 e1 _) (g := 20) (hg := by decide) (j := j) (hj := hj) ..)
    refine tiles_step _ _ 9 _ _ _ _ ?_ (read_xtile harg9 xo _ 9 rfl (by decide) _) ?_ ?_
    on_goal 3 => exact decode_hi _ _ (congrArg (fun z => highBits (words z)) (read_wgrp harg2 w 2432 19 rfl (by decide) _)) _ _ e1 19 (by decide) (by decide) rfl (fun j hj => load_hi1 (h := read_exps harg4 e1 _) (g := 19) (hg := by decide) (j := j) (hj := hj) ..)
    on_goal 2 => exact decode_hi _ _ (congrArg (fun z => highBits (words z)) (read_wgrp harg2 w 2304 18 rfl (by decide) _)) _ _ e1 18 (by decide) (by decide) rfl (fun j hj => load_hi1 (h := read_exps harg4 e1 _) (g := 18) (hg := by decide) (j := j) (hj := hj) ..)
    refine tiles_step _ _ 8 _ _ _ _ ?_ (read_xtile harg9 xo _ 8 rfl (by decide) _) ?_ ?_
    on_goal 3 => exact decode_hi _ _ (congrArg (fun z => highBits (words z)) (read_wgrp harg2 w 2176 17 rfl (by decide) _)) _ _ e1 17 (by decide) (by decide) rfl (fun j hj => load_hi1 (h := read_exps harg4 e1 _) (g := 17) (hg := by decide) (j := j) (hj := hj) ..)
    on_goal 2 => exact decode_hi _ _ (congrArg (fun z => highBits (words z)) (read_wgrp harg2 w 2048 16 rfl (by decide) _)) _ _ e1 16 (by decide) (by decide) rfl (fun j hj => load_hi1 (h := read_exps harg4 e1 _) (g := 16) (hg := by decide) (j := j) (hj := hj) ..)
    refine tiles_step _ _ 7 _ _ _ _ ?_ (read_xtile harg9 xo _ 7 rfl (by decide) _) ?_ ?_
    on_goal 3 => exact decode_lo _ _ (congrArg (fun z => highBits (words z)) (read_wgrp harg2 w 1920 15 rfl (by decide) _)) _ _ e1 15 rfl (load_lo1 (h := read_exps harg4 e1 _) (g := 15) (hg := by decide) ..)
    on_goal 2 => exact decode_lo _ _ (congrArg (fun z => highBits (words z)) (read_wgrp harg2 w 1792 14 rfl (by decide) _)) _ _ e1 14 rfl (load_lo1 (h := read_exps harg4 e1 _) (g := 14) (hg := by decide) ..)
    refine tiles_step _ _ 6 _ _ _ _ ?_ (read_xtile harg9 xo _ 6 rfl (by decide) _) ?_ ?_
    on_goal 3 => exact decode_lo _ _ (congrArg (fun z => highBits (words z)) (read_wgrp harg2 w 1664 13 rfl (by decide) _)) _ _ e1 13 rfl (load_lo1 (h := read_exps harg4 e1 _) (g := 13) (hg := by decide) ..)
    on_goal 2 => exact decode_lo _ _ (congrArg (fun z => highBits (words z)) (read_wgrp harg2 w 1536 12 rfl (by decide) _)) _ _ e1 12 rfl (load_lo1 (h := read_exps harg4 e1 _) (g := 12) (hg := by decide) ..)
    refine tiles_step _ _ 5 _ _ _ _ ?_ (read_xtile harg9 xo _ 5 rfl (by decide) _) ?_ ?_
    on_goal 3 => exact decode_lo _ _ (congrArg (fun z => highBits (words z)) (read_wgrp harg2 w 1408 11 rfl (by decide) _)) _ _ e1 11 rfl (load_lo1 (h := read_exps harg4 e1 _) (g := 11) (hg := by decide) ..)
    on_goal 2 => exact decode_lo _ _ (congrArg (fun z => highBits (words z)) (read_wgrp harg2 w 1280 10 rfl (by decide) _)) _ _ e1 10 rfl (load_lo1 (h := read_exps harg4 e1 _) (g := 10) (hg := by decide) ..)
    refine tiles_step _ _ 4 _ _ _ _ ?_ (read_xtile harg9 xo _ 4 rfl (by decide) _) ?_ ?_
    on_goal 3 => exact decode_lo _ _ (congrArg (fun z => highBits (words z)) (read_wgrp harg2 w 1152 9 rfl (by decide) _)) _ _ e1 9 rfl (load_lo1 (h := read_exps harg4 e1 _) (g := 9) (hg := by decide) ..)
    on_goal 2 => exact decode_lo _ _ (congrArg (fun z => highBits (words z)) (read_wgrp harg2 w 1024 8 rfl (by decide) _)) _ _ e1 8 rfl (load_lo1 (h := read_exps harg4 e1 _) (g := 8) (hg := by decide) ..)
    refine tiles_step _ _ 3 _ _ _ _ ?_ (read_xtile harg9 xo _ 3 rfl (by decide) _) ?_ ?_
    on_goal 3 => exact decode_lo _ _ (congrArg (fun z => highBits (words z)) (read_wgrp harg2 w 896 7 rfl (by decide) _)) _ _ e1 7 rfl (load_lo1 (h := read_exps harg4 e1 _) (g := 7) (hg := by decide) ..)
    on_goal 2 => exact decode_lo _ _ (congrArg (fun z => highBits (words z)) (read_wgrp harg2 w 768 6 rfl (by decide) _)) _ _ e1 6 rfl (load_lo1 (h := read_exps harg4 e1 _) (g := 6) (hg := by decide) ..)
    refine tiles_step _ _ 2 _ _ _ _ ?_ (read_xtile harg9 xo _ 2 rfl (by decide) _) ?_ ?_
    on_goal 3 => exact decode_lo _ _ (congrArg (fun z => highBits (words z)) (read_wgrp harg2 w 640 5 rfl (by decide) _)) _ _ e1 5 rfl (load_lo1 (h := read_exps harg4 e1 _) (g := 5) (hg := by decide) ..)
    on_goal 2 => exact decode_lo _ _ (congrArg (fun z => highBits (words z)) (read_wgrp harg2 w 512 4 rfl (by decide) _)) _ _ e1 4 rfl (load_lo1 (h := read_exps harg4 e1 _) (g := 4) (hg := by decide) ..)
    refine tiles_step _ _ 1 _ _ _ _ ?_ (read_xtile harg9 xo _ 1 rfl (by decide) _) ?_ ?_
    on_goal 3 => exact decode_lo _ _ (congrArg (fun z => highBits (words z)) (read_wgrp harg2 w 384 3 rfl (by decide) _)) _ _ e1 3 rfl (load_lo1 (h := read_exps harg4 e1 _) (g := 3) (hg := by decide) ..)
    on_goal 2 => exact decode_lo _ _ (congrArg (fun z => highBits (words z)) (read_wgrp harg2 w 256 2 rfl (by decide) _)) _ _ e1 2 rfl (load_lo1 (h := read_exps harg4 e1 _) (g := 2) (hg := by decide) ..)
    refine tiles_step _ _ 0 _ _ _ _ ?_ (read_xtile harg9 xo _ 0 rfl (by decide) _) ?_ ?_
    on_goal 3 => exact decode_lo _ _ (congrArg (fun z => highBits (words z)) (read_wgrp harg2 w 128 1 rfl (by decide) _)) _ _ e1 1 rfl (load_lo1 (h := read_exps harg4 e1 _) (g := 1) (hg := by decide) ..)
    on_goal 2 => exact decode_lo _ _ (congrArg (fun z => highBits (words z)) (read_wgrp harg2 w 0 0 rfl (by decide) _)) _ _ e1 0 rfl (load_lo1 (h := read_exps harg4 e1 _) (g := 0) (hg := by decide) ..)
    rfl
  isplitl [H9]
  · iexists _; isplitr; · ipureintro; exact harg9.read_unread _
    iexact H9
  iexists _, _; isplitr; swap; · iexact H10
  ipureintro; rfl

end Cert.KernelIdeal.Hand

end
-- ==== Proof.Launch.lean ====
/-
  The kernel's run: what its arrays hold at the end.
-/
module

public import proofs.«01_k».proof.Proof.Prods
public import proofs.«01_k».proof.Proof.Gen.KernelIdeal.Frame
public import proofs.«01_k».proof.Proof.Gen.KernelIdeal.Points
public import Idealize.ShloMosaic.Lib.WordCmp
public import Idealize.ShloMosaic.Lib.Claim
public import Idealize.ShloMosaic.Lib.Pipeline.Value
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The whole input, as the first window stages it. -/
def xin (c : Dev nD) : Vec F S256x3584 .bf16 := iblk m c 0 ⟨0, by decide⟩
theorem xin_eq (c : Dev nD) (t : Fin cfg0.N) : iblk m c 0 t = xin m c := rfl

abbrev sc0 : Memref sig .tc .vmem S256x3584 .bf16 := Memref.whole cc0_scratch0
abbrev sc1 : Memref sig .tc .vmem S2x256x256 .bf16 := Memref.whole cc0_scratch1

/-- The scratch at some contents. -/
theorem loose_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The scratch with the operand in it. -/
def filled (c : Dev nD) : sProp 𝕄 :=
  iprop(iprop(owns (c : Thread nD τ) sc0 fullShare (XOP (xin m c)) ∗ (∃ d, owns (c : Thread nD τ) sc1 fullShare d)) ∗ (∃ r, prngReg c r))

theorem filled_loose (c : Dev nD) : filled m c ⊢ (Pipeline.ΦA spec0 c : sProp 𝕄) := by
  rw [loose_eq]
  unfold filled
  iintro ⟨⟨H0, H1⟩, Hg⟩
  isplitl [H0 H1]
  · isplitl [H0]
    · iexists _; iexact H0
    iexact H1
  iexact Hg

/-- The low product at point `t`, and the high one. -/
def ylo (c : Dev nD) (t : Fin cfg0.N) : Vec F S256x256 .bf16 := YLO (iblk m c 1 t) (iblk m c 2 t) (XOP (xin m c))
def yhi (c : Dev nD) (t : Fin cfg0.N) : Vec F S256x256 .bf16 := YHI (iblk m c 1 t) (iblk m c 3 t) (XOP (xin m c))

def datum (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ylo m c t
    | ⟨5, _⟩ => yhi m c t
    | ⟨6, _⟩ => XP (xin m c)
    | ⟨7, _⟩ => XE (xin m c)
  Φ t := if t.val = 0 then Pipeline.ΦA spec0 c else filled m c
  q w := Pipeline.shareOf spec0 w
  owed _ := 0

theorem phi_zero (c : Dev nD) (t : Fin (cfg0.N + 1)) (h : t.val = 0) : (datum m 0 c).Φ t = Pipeline.ΦA spec0 c := by
  dsimp only [datum]; rw [if_pos h]
theorem phi_pos (c : Dev nD) (t : Fin (cfg0.N + 1)) (h : ¬ t.val = 0) : (datum m 0 c).Φ t = filled m c := by
  dsimp only [datum]; rw [if_neg h]

theorem start (c : Dev nD) (w : Fin cfg0.W) : (datum m 0 c).A w = V m c (Pipeline.arrRef spec0 w) := by
  dsimp only [datum]

theorem left_0 (c : Dev nD) (t : Fin cfg0.N) : (datum m 0 c).after 0 t = iblk m c 0 t := by dsimp only [datum]
theorem left_1 (c : Dev nD) (t : Fin cfg0.N) : (datum m 0 c).after 1 t = iblk m c 1 t := by dsimp only [datum]
theorem left_2 (c : Dev nD) (t : Fin cfg0.N) : (datum m 0 c).after 2 t = iblk m c 2 t := by dsimp only [datum]
theorem left_3 (c : Dev nD) (t : Fin cfg0.N) : (datum m 0 c).after 3 t = iblk m c 3 t := by dsimp only [datum]
theorem left_4 (c : Dev nD) (t : Fin cfg0.N) : (datum m 0 c).after 4 t = ylo m c t := by dsimp only [datum]
theorem left_5 (c : Dev nD) (t : Fin cfg0.N) : (datum m 0 c).after 5 t = yhi m c t := by dsimp only [datum]
theorem left_6 (c : Dev nD) (t : Fin cfg0.N) : (datum m 0 c).after 6 t = XP (xin m c) := by dsimp only [datum]
theorem left_7 (c : Dev nD) (t : Fin cfg0.N) : (datum m 0 c).after 7 t = XE (xin m c) := by dsimp only [datum]
theorem met_0 (c : Dev nD) (t : Fin cfg0.N) (d) : (datum m 0 c).before 0 t d = iblk m c 0 t :=
  before0_0_of m (datum m 0 c) (start m c 0) (left_0 m c) t d
theorem met_1 (c : Dev nD) (t : Fin cfg0.N) (d) : (datum m 0 c).before 1 t d = iblk m c 1 t :=
  before0_1_of m (datum m 0 c) (start m c 1) (left_1 m c) t d
theorem met_2 (c : Dev nD) (t : Fin cfg0.N) (d) : (datum m 0 c).before 2 t d = iblk m c 2 t :=
  before0_2_of m (datum m 0 c) (start m c 2) (left_2 m c) t d
theorem met_3 (c : Dev nD) (t : Fin cfg0.N) (d) : (datum m 0 c).before 3 t d = iblk m c 3 t :=
  before0_3_of m (datum m 0 c) (start m c 3) (left_3 m c) t d

theorem only_first : ∀ t : Fin cfg0.N, k0_cond1 (grid0.coords t) = 1#1 ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [k0_cond1, e0]
    word_cmp
   : ∀ t : Fin grid0.N, k0_cond1 (grid0.coords t) = 1#1 ↔ t.val % 37 = 0)

theorem live_6 (t : Fin cfg0.N) (h : t.val % 37 = 0) : cfg0.idle 6 (cfg0.grid.coords t) = false := by
  show (!(k0_cond1 (grid0.coords t) == 1#1)) = false
  rw [(only_first t).mpr h]; rfl
theorem idle_6 (t : Fin cfg0.N) (h : ¬ t.val % 37 = 0) : cfg0.idle 6 (cfg0.grid.coords t) = true := by
  show (!(k0_cond1 (grid0.coords t) == 1#1)) = true
  have := fun e => h ((only_first t).mp e)
  simp only [Bool.not_eq_eq_eq_not, Bool.not_true, beq_eq_false_iff_ne]; exact this
theorem carry_live_6 (c : Dev nD) (t : Fin cfg0.N) (h : t.val % 37 = 0) (d) : (datum m 0 c).left 6 t d = (datum m 0 c).kept 6 t d := by
  unfold Dat.left; rw [live_6 t h]
theorem carry_idle_6 (c : Dev nD) (t : Fin cfg0.N) (h : ¬ t.val % 37 = 0) (d) : (datum m 0 c).left 6 t d = (datum m 0 c).before 6 t d := by
  unfold Dat.left; rw [idle_6 t h]
/-- After the first point window 6 keeps what that point left. -/
theorem kept_6 (c : Dev nD) (d) : ∀ (n : ℕ) (h : n + 1 < cfg0.N), (datum m 0 c).before 6 ⟨n + 1, h⟩ d = XP (xin m c)
  | 0, h => by
    have hf : (cfg0.win 6).flush ⟨0, by decide⟩ = false := by
      rw [Bool.eq_false_iff]; intro e; have := (flush0_6 _).mp e; dsimp only at this; omega
    refine ((datum m 0 c).before_of_pos 6 ⟨0 + 1, h⟩ (Nat.succ_ne_zero _) rfl d).trans ?_
    refine (if_neg (by rw [Bool.not_eq_true]; exact hf)).trans ?_
    exact (carry_live_6 m c ⟨0, by decide⟩ rfl d).trans rfl
  | n + 1, h => by
    have hN : cfg0.N = 37 := N_0
    have hf : (cfg0.win 6).flush ⟨n + 1, Nat.lt_of_succ_lt h⟩ = false := by
      rw [Bool.eq_false_iff]; intro e; have := (flush0_6 _).mp e; dsimp only at this; omega
    refine ((datum m 0 c).before_of_pos 6 ⟨n + 1 + 1, h⟩ (by dsimp only; omega) rfl d).trans ?_
    refine (if_neg (by rw [Bool.not_eq_true]; exact hf)).trans ?_
    exact (carry_idle_6 m c ⟨n + 1, Nat.lt_of_succ_lt h⟩ (by dsimp only; omega) d).trans (kept_6 c d n (Nat.lt_of_succ_lt h))
theorem keeps_6 (c : Dev nD) (t : Fin cfg0.N) (h : ¬ t.val % 37 = 0) (d) : (datum m 0 c).before 6 t d = XP (xin m c) := by
  obtain ⟨n, hn⟩ := t
  cases n with
  | zero => exact absurd rfl h
  | succ n => exact kept_6 m c d n hn

theorem live_7 (t : Fin cfg0.N) (h : t.val % 37 = 0) : cfg0.idle 7 (cfg0.grid.coords t) = false := by
  show (!(k0_cond1 (grid0.coords t) == 1#1)) = false
  rw [(only_first t).mpr h]; rfl
theorem idle_7 (t : Fin cfg0.N) (h : ¬ t.val % 37 = 0) : cfg0.idle 7 (cfg0.grid.coords t) = true := by
  show (!(k0_cond1 (grid0.coords t) == 1#1)) = true
  have := fun e => h ((only_first t).mp e)
  simp only [Bool.not_eq_eq_eq_not, Bool.not_true, beq_eq_false_iff_ne]; exact this
theorem carry_live_7 (c : Dev nD) (t : Fin cfg0.N) (h : t.val % 37 = 0) (d) : (datum m 0 c).left 7 t d = (datum m 0 c).kept 7 t d := by
  unfold Dat.left; rw [live_7 t h]
theorem carry_idle_7 (c : Dev nD) (t : Fin cfg0.N) (h : ¬ t.val % 37 = 0) (d) : (datum m 0 c).left 7 t d = (datum m 0 c).before 7 t d := by
  unfold Dat.left; rw [idle_7 t h]
/-- After the first point window 7 keeps what that point left. -/
theorem kept_7 (c : Dev nD) (d) : ∀ (n : ℕ) (h : n + 1 < cfg0.N), (datum m 0 c).before 7 ⟨n + 1, h⟩ d = XE (xin m c)
  | 0, h => by
    have hf : (cfg0.win 7).flush ⟨0, by decide⟩ = false := by
      rw [Bool.eq_false_iff]; intro e; have := (flush0_7 _).mp e; dsimp only at this; omega
    refine ((datum m 0 c).before_of_pos 7 ⟨0 + 1, h⟩ (Nat.succ_ne_zero _) rfl d).trans ?_
    refine (if_neg (by rw [Bool.not_eq_true]; exact hf)).trans ?_
    exact (carry_live_7 m c ⟨0, by decide⟩ rfl d).trans rfl
  | n + 1, h => by
    have hN : cfg0.N = 37 := N_0
    have hf : (cfg0.win 7).flush ⟨n + 1, Nat.lt_of_succ_lt h⟩ = false := by
      rw [Bool.eq_false_iff]; intro e; have := (flush0_7 _).mp e; dsimp only at this; omega
    refine ((datum m 0 c).before_of_pos 7 ⟨n + 1 + 1, h⟩ (by dsimp only; omega) rfl d).trans ?_
    refine (if_neg (by rw [Bool.not_eq_true]; exact hf)).trans ?_
    exact (carry_idle_7 m c ⟨n + 1, Nat.lt_of_succ_lt h⟩ (by dsimp only; omega) d).trans (kept_7 c d n (Nat.lt_of_succ_lt h))
theorem keeps_7 (c : Dev nD) (t : Fin cfg0.N) (h : ¬ t.val % 37 = 0) (d) : (datum m 0 c).before 7 t d = XE (xin m c) := by
  obtain ⟨n, hn⟩ := t
  cases n with
  | zero => exact absurd rfl h
  | succ n => exact kept_7 m c d n hn

/-! ## The body at a point -/

def given (c : Dev nD) (t : Fin cfg0.N) : sProp 𝕄 :=
  iprop((datum m 0 c).Φ t.castSucc ∗ (datum m 0 c).owesAt () t.castSucc
    ∗ (∃ d, owns (c : Thread nD τ) (win0_0.stage (cfg0.slots t 0)) fullShare ((datum m 0 c).before 0 t d))
    ∗ (∃ d, owns (c : Thread nD τ) (win0_1.stage (cfg0.slots t 1)) fullShare ((datum m 0 c).before 1 t d))
    ∗ (∃ d, owns (c : Thread nD τ) (win0_2.stage (cfg0.slots t 2)) fullShare ((datum m 0 c).before 2 t d))
    ∗ (∃ d, owns (c : Thread nD τ) (win0_3.stage (cfg0.slots t 3)) fullShare ((datum m 0 c).before 3 t d))
    ∗ (∃ d, owns (c : Thread nD τ) (win0_4.stage (cfg0.slots t 4)) fullShare ((datum m 0 c).before 4 t d))
    ∗ (∃ d, owns (c : Thread nD τ) (win0_5.stage (cfg0.slots t 5)) fullShare ((datum m 0 c).before 5 t d))
    ∗ (∃ d, owns (c : Thread nD τ) (win0_6.stage (cfg0.slots t 6)) fullShare ((datum m 0 c).before 6 t d))
    ∗ (∃ d, owns (c : Thread nD τ) (win0_7.stage (cfg0.slots t 7)) fullShare ((datum m 0 c).before 7 t d)))

def handed (c : Dev nD) (t : Fin cfg0.N) : sProp 𝕄 :=
  iprop((datum m 0 c).Φ t.succ ∗ (datum m 0 c).owesAt () t.succ
    ∗ (datum m 0 c).leavesExact 0 t
    ∗ (datum m 0 c).leavesExact 1 t
    ∗ (datum m 0 c).leavesExact 2 t
    ∗ (datum m 0 c).leavesExact 3 t
    ∗ (datum m 0 c).leavesExact 4 t
    ∗ (datum m 0 c).leavesExact 5 t
    ∗ (datum m 0 c).leavesExact 6 t
    ∗ (datum m 0 c).leavesExact 7 t)

theorem leaves_0 (c : Dev nD) (t : Fin cfg0.N) : (datum m 0 c).leavesExact 0 t = owns (c : Thread nD τ) (win0_0.stage (cfg0.slots t 0)) fullShare ((datum m 0 c).after 0 t) := rfl
theorem leaves_1 (c : Dev nD) (t : Fin cfg0.N) : (datum m 0 c).leavesExact 1 t = owns (c : Thread nD τ) (win0_1.stage (cfg0.slots t 1)) fullShare ((datum m 0 c).after 1 t) := rfl
theorem leaves_2 (c : Dev nD) (t : Fin cfg0.N) : (datum m 0 c).leavesExact 2 t = owns (c : Thread nD τ) (win0_2.stage (cfg0.slots t 2)) fullShare ((datum m 0 c).after 2 t) := rfl
theorem leaves_3 (c : Dev nD) (t : Fin cfg0.N) : (datum m 0 c).leavesExact 3 t = owns (c : Thread nD τ) (win0_3.stage (cfg0.slots t 3)) fullShare ((datum m 0 c).after 3 t) := rfl
theorem leaves_4 (c : Dev nD) (t : Fin cfg0.N) : (datum m 0 c).leavesExact 4 t = owns (c : Thread nD τ) (win0_4.stage (cfg0.slots t 4)) fullShare ((datum m 0 c).after 4 t) := rfl
theorem leaves_5 (c : Dev nD) (t : Fin cfg0.N) : (datum m 0 c).leavesExact 5 t = owns (c : Thread nD τ) (win0_5.stage (cfg0.slots t 5)) fullShare ((datum m 0 c).after 5 t) := rfl
theorem leaves_6 (c : Dev nD) (t : Fin cfg0.N) (h : t.val % 37 = 0) : (datum m 0 c).leavesExact 6 t = owns (c : Thread nD τ) (win0_6.stage (cfg0.slots t 6)) fullShare ((datum m 0 c).after 6 t) := by
  unfold Dat.leavesExact; rw [live_6 t h]
theorem leaves_7 (c : Dev nD) (t : Fin cfg0.N) (h : t.val % 37 = 0) : (datum m 0 c).leavesExact 7 t = owns (c : Thread nD τ) (win0_7.stage (cfg0.slots t 7)) fullShare ((datum m 0 c).after 7 t) := by
  unfold Dat.leavesExact; rw [live_7 t h]
theorem leaves_last_6 (c : Dev nD) (t : Fin cfg0.N) (h : ¬ t.val % 37 = 0) (hl : t.val % 37 = 36) :
    (datum m 0 c).leavesExact 6 t = owns (c : Thread nD τ) (win0_6.stage (cfg0.slots t 6)) fullShare (XP (xin m c)) := by
  unfold Dat.leavesExact; rw [idle_6 t h, (flush0_6 t).mpr hl]; rfl
theorem leaves_mid_6 (c : Dev nD) (t : Fin cfg0.N) (h : ¬ t.val % 37 = 0) (hl : ¬ t.val % 37 = 36) :
    (datum m 0 c).leavesExact 6 t = iprop(∃ d, owns (c : Thread nD τ) (win0_6.stage (cfg0.slots t 6)) fullShare ((datum m 0 c).before 6 t d)) := by
  have hf : (cfg0.win 6).flush t = false := by
    rw [Bool.eq_false_iff]; exact fun e => hl ((flush0_6 t).mp e)
  exact (datum m 0 c).leavesExact_idle 6 t (idle_6 t h) hf
theorem leaves_last_7 (c : Dev nD) (t : Fin cfg0.N) (h : ¬ t.val % 37 = 0) (hl : t.val % 37 = 36) :
    (datum m 0 c).leavesExact 7 t = owns (c : Thread nD τ) (win0_7.stage (cfg0.slots t 7)) fullShare (XE (xin m c)) := by
  unfold Dat.leavesExact; rw [idle_7 t h, (flush0_7 t).mpr hl]; rfl
theorem leaves_mid_7 (c : Dev nD) (t : Fin cfg0.N) (h : ¬ t.val % 37 = 0) (hl : ¬ t.val % 37 = 36) :
    (datum m 0 c).leavesExact 7 t = iprop(∃ d, owns (c : Thread nD τ) (win0_7.stage (cfg0.slots t 7)) fullShare ((datum m 0 c).before 7 t d)) := by
  have hf : (cfg0.win 7).flush t = false := by
    rw [Bool.eq_false_iff]; exact fun e => hl ((flush0_7 t).mp e)
  exact (datum m 0 c).leavesExact_idle 7 t (idle_7 t h) hf

set_option maxHeartbeats 1600000 in
theorem body_holds (c : Dev nD) (t : Fin cfg0.N) :
    given m c t ⊢ wp frame (wpE (defs₀ (F := F)) Variants.none c none) Set.univ (bodyAt0 t) (fun _ => handed m c t) := by
  unfold given handed bodyAt0
  simp only [met_0, met_1, met_2, met_3]
  rw [show (datum m 0 c).owesAt () t.succ = (datum m 0 c).owesAt () t.castSucc from rfl]
  rw [phi_pos m c t.succ (Nat.succ_ne_zero _)]
  rw [leaves_0, leaves_1, leaves_2, leaves_3, leaves_4, leaves_5, left_0, left_1, left_2, left_3, left_4, left_5, xin_eq]
  unfold ylo yhi
  have hN : t.val < 37 := lt_of_lt_of_eq t.isLt (show cfg0.N = 37 from N_0)
  by_cases h0 : t.val % 37 = 0
  · rw [phi_zero m c t.castSucc (by show t.val = 0; omega), loose_eq]
    rw [leaves_6 m c t h0, leaves_7 m c t h0, left_6, left_7]
    rw [body_pos (h := (only_first t).mpr h0), wp_bind]
    unfold filled
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply quant_run c (grid0.coords t) _ _ _ _ _ _ _ _ _ _ _ _ _ _ _ _ _ _ _ _ (xin m c) Set.univ _
    isplitl [H0]; · iexact H0
    isplitl [H6]; · iexists _; iexact H6
    isplitl [H7]; · iexists _; iexact H7
    isplitl [HS0]; · iexact HS0
    iintro ⟨H0, H6, H7, HS0⟩
    iapply prods_run c (grid0.coords t) _ _ _ _ _ _ _ _ _ _ _ _ _ _ _ _ _ _ _ _ (iblk m c 1 t) (iblk m c 2 t) (iblk m c 3 t) (XOP (xin m c)) Set.univ _
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [phi_pos m c t.castSucc (by show ¬ t.val = 0; omega)]
    rw [body_neg (h := fun h => h0 ((only_first t).mp h))]
    unfold filled
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply prods_run c (grid0.coords t) _ _ _ _ _ _ _ _ _ _ _ _ _ _ _ _ _ _ _ _ (iblk m c 1 t) (iblk m c 2 t) (iblk m c 3 t) (XOP (xin m c)) Set.univ _
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    by_cases hl : t.val % 37 = 36
    · rw [leaves_last_6 m c t h0 hl, leaves_last_7 m c t h0 hl, keeps_6 m c t h0 d6, keeps_7 m c t h0 d7]
      isplitl [H6]; · iexact H6
      iexact H7
    · rw [leaves_mid_6 m c t h0 hl, leaves_mid_7 m c t h0 hl]
      isplitl [H6]; · iexists _; iexact H6
      iexists _; iexact H7

theorem row (t : Fin cfg0.N) : defs₀ (F := F) .tc cfg0.body (cfg0.bodyArgs t (cfg0.slots t)) = bodyAt0 t := by
  unfold defs₀; rw [Defs.onTc_tc]

theorem obligation (c : Dev nD) : BodyObligation (datum (F := F) m 0 c) (defs₀ (F := F)) Variants.none () Set.univ := fun t => by
  rw [bigSep_W0, bigSep_W0, row]
  exact triple_restated (body_holds m c t) rfl .rfl fun _ => .rfl

/-! ## The run -/

set_option backward.isDefEq.respectTransparency.types false in
set_option maxHeartbeats 800000 in
theorem run_quiet : θ_run defs (onTc (τ := τ) (main (F := F))) (s₀ m ρ)
    (fun r => Pipeline.FramePost cfgs (datum m) 0 (Pipeline.afterTail₀ cfgs (datum m) 0 (V0 m) [hostOps1]) r ∧ r.2.sem = fun _ => 0) :=
  Pipeline.θ_run_frame_around_track_shared (Q' := _) cfgs (datum m) (0 : Fin 1) launch₀0 defs₀ Variants.none m ρ main
    (hbody := fun c => (obligation m c).loose) (hq := fun _ _ _ => rfl) (howed := fun _ _ => rfl) (V₀ := V0 m) (opss := [hostOps1])
    (hsub := sfx_sub) (hfresh := sfx_fresh) (hkeep := sfx_keeps) (hmain := hmain m Variants.none) (hA := start m)
    (hin := fun c => by rw [phi_zero m c 0 rfl])
    (hout := fun c => by
      rw [phi_pos m c (Fin.last cfg0.N) (by show ¬ cfg0.N = 0; rw [show cfg0.N = 37 from N_0]; decide)]
      exact filled_loose m c)

theorem run_plain : θ_run defs (onTc (τ := τ) (main (F := F))) (s₀ m ρ)
    (Pipeline.FramePost cfgs (datum m) 0 (Pipeline.afterTail₀ cfgs (datum m) 0 (V0 m) [hostOps1])) :=
  (θ_run defs _ _).mono (fun _ h => h.1) (run_quiet m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (datum m) (start m) (run_plain m ρ)) ((θ_run defs _ _).mono (fun _ h => h.2) (run_quiet m ρ))

end Cert.KernelIdeal.Hand

end
-- ==== Proof.KernelFrame.lean ====
/-
  The frame of the kernel over words: the kernel and its idealization are the same program text, and the frame of that text is proved for
  floats of any kind.
-/
module

public import proofs.«01_k».proof.Proof.Launch
public import proofs.«01_k».proof.Proof.Gen.Kernel

@[expose] public section

set_option maxRecDepth 16384

noncomputable section

namespace Cert.Kernel.Hand

open Idealize.ShloMosaic Idealize.ShloMosaic.TcCoe Idealize.SL.Sem Cert.Kernel Cert.Kernel.Gen

variable {F : FTy → Type} [FloatOps F]

/-- The kernel bodies by label are the idealization's. -/
theorem bodies_same : defs₀ (F := F) = Cert.KernelIdeal.defs₀ (F := F) := by
  unfold defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So are the bodies with the pipelines. -/
theorem tables_same : defs (F := F) = Cert.KernelIdeal.defs (F := F) := by
  unfold defs Cert.KernelIdeal.defs
  rw [bodies_same]
  rfl

/-- So is the main function. -/
theorem mains_same : main (F := F) = Cert.KernelIdeal.main (F := F) := rfl

/-- The arguments end unchanged and the counters at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [tables_same, mains_same]
  exact Cert.KernelIdeal.Hand.frame (F := F) m ρ

end Cert.Kernel.Hand

end
-- ==== Proof.Results.lean ====
/-
  The kernel's results after the run, as functions of what its windows read.
-/
module

public import proofs.«01_k».proof.Proof.Launch

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- A point of the grid by its number. -/
def pt (n : ℕ) (h : n < 37) : Fin cfg0.N := ⟨n, h⟩

def at256 (r : ℕ) (hr : r < 256) (k : ℕ) (hk : k < 256) : S256x256.Idx :=
  fun a => match a with
  | ⟨0, _⟩ => ⟨r, hr⟩
  | ⟨1, _⟩ => ⟨k, hk⟩

/-- The blocks of 256 columns laid side by side. -/
def spread (f : Fin cfg0.N → Vec F S256x256 .bf16) : Vec F S256x9472 .bf16 := fun i =>
  f (pt ((i 1).val / 256) (by have h : (i 1).val < 9472 := (i 1).isLt; omega))
    (at256 (i 0).val (i 0).isLt ((i 1).val % 256) (Nat.mod_lt _ (by decide)))

theorem spread_at (f : Fin cfg0.N → Vec F S256x256 .bf16) (i : S256x9472.Idx) (t : Fin cfg0.N) (y : S256x256.Idx)
    (h0 : (i 0).val = (y 0).val) (h1 : (i 1).val = 256 * t.val + (y 1).val) : spread f i = f t y := by
  have hy : (y 1).val < 256 := (y 1).isLt
  unfold spread
  have e1 : pt ((i 1).val / 256) (by have h : (i 1).val < 9472 := (i 1).isLt; omega) = t := by
    apply Fin.ext; show (i 1).val / 256 = t.val; omega
  rw [e1]
  congr 1
  funext a
  match a with
  | ⟨0, _⟩ => exact Fin.ext h0
  | ⟨1, _⟩ => exact Fin.ext (by show (i 1).val % 256 = (y 1).val; omega)

theorem index_4 : ∀ t : Fin cfg0.N, win0_4.index t 0 = 0 ∧ win0_4.index t 1 = t.val := by decide +kernel
theorem index_5 : ∀ t : Fin cfg0.N, win0_5.index t 0 = 0 ∧ win0_5.index t 1 = t.val := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = t.val + 37 ∧ win0_3.index t 1 = 0 := by decide +kernel
theorem index_0 : ∀ t : Fin cfg0.N, win0_0.index t 0 = 0 ∧ win0_0.index t 1 = 0 := by decide +kernel

theorem array_4 (c : Dev nD) : (datum m 0 c).arrAt 4 cfg0.N = spread (ylo m c) := by
  refine (datum m 0 c).arrAt_eq_of_covers 4 (spread (ylo m c)) (by decide +kernel) fun t hf y => ?_
  rw [left_4]
  show ylo m c t y = _
  refine (spread_at (ylo m c) _ t y ?_ ?_).symm
  · show win0_4.index t 0 * 256 + 1 * (y 0).val = _
    rw [(index_4 t).1]; omega
  · show win0_4.index t 1 * 256 + 1 * (y 1).val = _
    rw [(index_4 t).2]; omega

theorem array_5 (c : Dev nD) : (datum m 0 c).arrAt 5 cfg0.N = spread (yhi m c) := by
  refine (datum m 0 c).arrAt_eq_of_covers 5 (spread (yhi m c)) (by decide +kernel) fun t hf y => ?_
  rw [left_5]
  show yhi m c t y = _
  refine (spread_at (yhi m c) _ t y ?_ ?_).symm
  · show win0_5.index t 0 * 256 + 1 * (y 0).val = _
    rw [(index_5 t).1]; omega
  · show win0_5.index t 1 * 256 + 1 * (y 1).val = _
    rw [(index_5 t).2]; omega

theorem array_6 (c : Dev nD) : (datum m 0 c).arrAt 6 cfg0.N = XP (xin m c) := by
  refine (datum m 0 c).arrAt_eq_of_after_last 6 (pt 36 (by decide)) (by decide +kernel) (XP (xin m c)) fun j => ?_
  rw [left_6]; rfl

theorem array_7 (c : Dev nD) : (datum m 0 c).arrAt 7 cfg0.N = XE (xin m c) := by
  refine (datum m 0 c).arrAt_eq_of_after_last 7 (pt 36 (by decide)) (by decide +kernel) (XE (xin m c)) fun j => ?_
  rw [left_7]; rfl

/-- The three results. -/
def result0 (c : Dev nD) : Vec F S1x256x18944 .bf16 :=
  shapeCast S1x256x18944 (concatenate S256x18944 1 [⟨S256x9472, spread (ylo m c)⟩, ⟨S256x9472, spread (yhi m c)⟩]
    concatenates_S256x9472_S256x9472_S256x18944_d1) shapeCasts_S256x18944_S1x256x18944
def result1 (c : Dev nD) : IVec S1x256x1792 8 := shapeCast S1x256x1792 (XP (xin m c)) shapeCasts_S256x1792_S1x256x1792
def result2 (c : Dev nD) : IVec S1x256x224 8 := shapeCast S1x256x224 (XE (xin m c)) shapeCasts_S256x224_S1x256x224

theorem exit_array (c : Dev nD) (w : Fin cfg0.W) :
    Pipeline.withArrays (cfgs 0).spec c (V0 m c) (fun w => (datum m 0 c).arrAt w (cfgs 0).N)
      (Proc.devRef .tc (Pipeline.arrRef spec0 w)) = (datum m 0 c).arrAt w cfg0.N :=
  (datum m 0 c).withArrays_arrAt sharedIn0 (V0 m c) (start m c) w

theorem tail_0 (c : Dev nD) : Pipeline.afterTail₀ cfgs (datum m) 0 (V0 m) [hostOps1] c main_v3 = result0 m c := by
  have h4 := (exit_array m c 4).trans (array_4 m c)
  have h5 := (exit_array m c 5).trans (array_5 m c)
  unfold Pipeline.afterTail₀ result0
  rw [← h4, ← h5]
  simp only [hostOps1, List.flatten_cons, List.flatten_nil, List.append_nil]
  after_results_simp
  rfl

theorem tail_1 (c : Dev nD) : Pipeline.afterTail₀ cfgs (datum m) 0 (V0 m) [hostOps1] c main_v4 = result1 m c := by
  have h6 := (exit_array m c 6).trans (array_6 m c)
  unfold Pipeline.afterTail₀ result1
  rw [← h6]
  simp only [hostOps1, List.flatten_cons, List.flatten_nil, List.append_nil]
  after_results_simp
  rfl

theorem tail_2 (c : Dev nD) : Pipeline.afterTail₀ cfgs (datum m) 0 (V0 m) [hostOps1] c main_v5 = result2 m c := by
  have h7 := (exit_array m c 7).trans (array_7 m c)
  unfold Pipeline.afterTail₀ result2
  rw [← h7]
  simp only [hostOps1, List.flatten_cons, List.flatten_nil, List.append_nil]
  after_results_simp
  rfl

/-- The run: the three results, the arguments unchanged. -/
theorem results_run : θ_run defs (onTc (τ := τ) (main (F := F))) ⟨m, fun _ => 0, ρ⟩ (fun r => ∀ c : Dev nD,
      r.2.mem ((c.tc : Thread nD τ).loc main_v3) = result0 m c
      ∧ r.2.mem ((c.tc : Thread nD τ).loc main_v4) = result1 m c
      ∧ r.2.mem ((c.tc : Thread nD τ).loc main_v5) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_)
    (θ_run_and (frame_of m ρ (datum m) (start m) (run_plain m ρ)) (run_plain m ρ))
  have hb := h.2 c
  exact ⟨(hb.2 main_v3 (Pipeline.mem_restRefs_of main_v3 (by decide) (by decide))).trans (tail_0 m c),
    (hb.2 main_v4 (Pipeline.mem_restRefs_of main_v4 (by decide) (by decide))).trans (tail_1 m c),
    (hb.2 main_v5 (Pipeline.mem_restRefs_of main_v5 (by decide) (by decide))).trans (tail_2 m c), h.1 c⟩

/-! ## What the windows read -/

theorem wq_at (c : Dev nD) (t : Fin cfg0.N) (y : S256x3584.Idx) (i : S9472x3584.Idx)
    (h0 : (i 0).val = 256 * t.val + (y 0).val) (h1 : (i 1).val = (y 1).val) :
    (iblk m c 1 t : IVec S256x3584 8) y = (m ((c : Thread nD τ).loc main_arg1) : IVec S9472x3584 8) i := by
  unfold iblk
  rw [View.read_apply]
  refine Eq.trans (congrFun (V_main_arg1 m c) _) ?_
  congr 1
  funext a
  apply Fin.ext
  match a with
  | ⟨0, _⟩ => show win0_1.index t 0 * 256 + 1 * (y 0).val = (i 0).val; rw [(index_1 t).1]; omega
  | ⟨1, _⟩ => show win0_1.index t 1 * 3584 + 1 * (y 1).val = (i 1).val; rw [(index_1 t).2]; omega

theorem elo_at (c : Dev nD) (t : Fin cfg0.N) (y : S256x224.Idx) (i : S18944x224.Idx)
    (h0 : (i 0).val = 256 * t.val + (y 0).val) (h1 : (i 1).val = (y 1).val) :
    (iblk m c 2 t : IVec S256x224 8) y = (m ((c : Thread nD τ).loc main_arg2) : IVec S18944x224 8) i := by
  unfold iblk
  rw [View.read_apply]
  refine Eq.trans (congrFun (V_main_arg2 m c) _) ?_
  congr 1
  funext a
  apply Fin.ext
  match a with
  | ⟨0, _⟩ => show win0_2.index t 0 * 256 + 1 * (y 0).val = (i 0).val; rw [(index_2 t).1]; omega
  | ⟨1, _⟩ => show win0_2.index t 1 * 224 + 1 * (y 1).val = (i 1).val; rw [(index_2 t).2]; omega

theorem ehi_at (c : Dev nD) (t : Fin cfg0.N) (y : S256x224.Idx) (i : S18944x224.Idx)
    (h0 : (i 0).val = 9472 + 256 * t.val + (y 0).val) (h1 : (i 1).val = (y 1).val) :
    (iblk m c 3 t : IVec S256x224 8) y = (m ((c : Thread nD τ).loc main_arg2) : IVec S18944x224 8) i := by
  unfold iblk
  rw [View.read_apply]
  refine Eq.trans (congrFun (V_main_arg2 m c) _) ?_
  congr 1
  funext a
  apply Fin.ext
  match a with
  | ⟨0, _⟩ => show win0_3.index t 0 * 256 + 1 * (y 0).val = (i 0).val; rw [(index_3 t).1]; omega
  | ⟨1, _⟩ => show win0_3.index t 1 * 224 + 1 * (y 1).val = (i 1).val; rw [(index_3 t).2]; omega

theorem V_main_v0 (c : Dev nD) : V m c main_v0
    = shapeCast S256x3584 (m ((c : Thread nD τ).loc main_arg0) : Vec F S1x256x3584 .bf16) shapeCasts_S1x256x3584_S256x3584 := by
  unfold V V0
  simp only [hostOps0, List.flatten_cons, List.flatten_nil, List.append_nil]
  after_results_simp
  rfl

theorem xin_at (c : Dev nD) (y : S256x3584.Idx) (i : S1x256x3584.Idx)
    (h0 : (i 1).val = (y 0).val) (h1 : (i 2).val = (y 1).val) :
    xin m c y = (m ((c : Thread nD τ).loc main_arg0) : Vec F S1x256x3584 .bf16) i := by
  unfold xin iblk
  rw [View.read_apply]
  refine Eq.trans (congrFun (V_main_v0 m c) _) ?_
  refine shapeCast_apply _ _ _ i ?_
  have hi : (i 0).val = 0 := by have h : (i 0).val < 1 := (i 0).isLt; omega
  have y0 : (y 0).val < 256 := (y 0).isLt
  have y1 : (y 1).val < 3584 := (y 1).isLt
  rw [Shape.rowMajor_val_three, Shape.rowMajor_val_two]
  show ((i 0).val * 256 + (i 1).val) * 3584 + (i 2).val = (0 * 256 + 1 * (y 0).val) * 3584 + (0 * 3584 + 1 * (y 1).val)
  omega

end Cert.KernelIdeal.Hand

end
-- ==== Proof.Scalars.lean ====
/-
  The arithmetic on one element over the reals: powers of two by their exponent field, the search for the field, the
  clamp and the rounding, and the weights' small floats.
-/
module

public import Idealize.ShloMosaic.PureOps.Ideal.Laws

@[expose] public section

set_option maxRecDepth 16384

noncomputable section

namespace Cert.Scalars

open Idealize.ShloMosaic

/-! ## Powers of two -/

/-- The value whose exponent field is `n`. -/
def pw (n : ℕ) : EReal := if n = 0 then 0 else if 255 ≤ n then ⊤ else (((2 : ℝ) ^ ((n : ℤ) - 127) : ℝ) : EReal)

theorem pw_mid (n : ℕ) (h1 : 1 ≤ n) (h2 : n ≤ 254) : pw n = (((2 : ℝ) ^ ((n : ℤ) - 127) : ℝ) : EReal) := by
  unfold pw; rw [if_neg (by omega), if_neg (by omega)]

theorem pw_top (n : ℕ) (h : 255 ≤ n) : pw n = ⊤ := by unfold pw; rw [if_neg (by omega), if_pos h]

theorem pw_pos (n : ℕ) (h : 1 ≤ n) : 0 < pw n := by
  unfold pw; rw [if_neg (by omega)]
  split
  · exact EReal.zero_lt_top
  · exact EReal.coe_pos.mpr (by positivity)

theorem fields : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by decide +kernel

/-- The float of an exponent field. -/
def powerS (e : BitVec 32) : EReal := Ideal.ofBits .f32 (IntOp.shli .vector e 23#32)

theorem float_of_fields (b : BitVec 32) (n : ℕ) (h : n ≤ 255) (h1 : (b.extractLsb' 31 1 == 1#1) = false) (h2 : (b.extractLsb' 23 8).toNat = n)
    (h3 : (b.extractLsb' 0 23).toNat = 0) : Ideal.ieee 8 23 b = pw n := by
  unfold Ideal.ieee
  dsimp only
  rw [show (8 + 23 : ℕ) = 31 from rfl, h1, h2, h3]
  by_cases h0 : n = 0
  · subst h0; simp [pw]
  by_cases ht : n = 255
  · subst ht; simp [pw]
  have hn : ¬ n = 2 ^ 8 - 1 := ht
  rw [if_neg hn, if_neg h0, pw_mid n (by omega) (by omega)]
  refine congrArg _ ?_
  simp only [Bool.false_eq_true, if_false, one_mul, Nat.add_zero]
  have e : ((2 ^ 23 : ℕ) : ℝ) = (2 : ℝ) ^ (23 : ℤ) := by norm_num
  rw [e, ← zpow_add₀ (by norm_num)]
  refine congrArg _ ?_
  norm_num

theorem powerS_apply (n : ℕ) (h : n ≤ 255) : powerS (BitVec.ofNat 32 n) = pw n := by
  obtain ⟨h1, h2, h3⟩ := fields ⟨n, by omega⟩
  exact float_of_fields _ n h h1 h2 h3

/-! ## The search -/

theorem word_add (a b : ℕ) : IntOp.addi (BitVec.ofNat 32 a) (BitVec.ofNat 32 b) = BitVec.ofNat 32 (a + b) :=
  (BitVec.ofNat_add ..).symm

/-- One step of the search. -/
def probeS (m : EReal) (b e : BitVec 32) : BitVec 32 :=
  Scalar.select (Ideal.cmp .olt m (powerS (IntOp.addi e b))) e (IntOp.addi e b)

theorem probeS_step (m : EReal) (b n w : ℕ) (hw : w = b + b) (hb : 1 ≤ b) (hn : n + w ≤ 256) (h1 : n = 0 ∨ pw n ≤ m) (h2 : m < pw (n + w)) :
    ∃ n' : ℕ, probeS m (BitVec.ofNat 32 b) (BitVec.ofNat 32 n) = BitVec.ofNat 32 n' ∧ n' + b ≤ 256 ∧ (n' = 0 ∨ pw n' ≤ m) ∧ m < pw (n' + b) := by
  subst hw
  unfold probeS
  rw [word_add, powerS_apply _ (by omega)]
  by_cases h : m < pw (n + b)
  · refine ⟨n, ?_, by omega, h1, h⟩
    simp [Scalar.select, Ideal.cmp, h]
  · refine ⟨n + b, ?_, by omega, Or.inr (not_lt.mp h), by rwa [Nat.add_assoc]⟩
    simp [Scalar.select, Ideal.cmp, h]

/-- The exponent field found. -/
def searchS (m : EReal) : BitVec 32 :=
  probeS m 1#32 (probeS m 2#32 (probeS m 4#32 (probeS m 8#32 (probeS m 16#32 (probeS m 32#32 (probeS m 64#32
    (probeS m 128#32 0#32)))))))

theorem searchS_spec (m : EReal) (hm : m < ⊤) :
    ∃ n : ℕ, searchS m = BitVec.ofNat 32 n ∧ n + 1 ≤ 256 ∧ (n = 0 ∨ pw n ≤ m) ∧ m < pw (n + 1) := by
  obtain ⟨a1, e1, i1, j1, k1⟩ := probeS_step m 128 0 256 rfl (by omega) (by omega) (Or.inl rfl) (by rw [pw_top _ (by omega)]; exact hm)
  obtain ⟨a2, e2, i2, j2, k2⟩ := probeS_step m 64 a1 128 rfl (by omega) i1 j1 k1
  obtain ⟨a3, e3, i3, j3, k3⟩ := probeS_step m 32 a2 64 rfl (by omega) i2 j2 k2
  obtain ⟨a4, e4, i4, j4, k4⟩ := probeS_step m 16 a3 32 rfl (by omega) i3 j3 k3
  obtain ⟨a5, e5, i5, j5, k5⟩ := probeS_step m 8 a4 16 rfl (by omega) i4 j4 k4
  obtain ⟨a6, e6, i6, j6, k6⟩ := probeS_step m 4 a5 8 rfl (by omega) i5 j5 k5
  obtain ⟨a7, e7, i7, j7, k7⟩ := probeS_step m 2 a6 4 rfl (by omega) i6 j6 k6
  obtain ⟨a8, e8, i8, j8, k8⟩ := probeS_step m 1 a7 2 rfl (by omega) i7 j7 k7
  refine ⟨a8, ?_, i8, j8, k8⟩
  unfold searchS
  rw [show (0#32) = BitVec.ofNat 32 0 from rfl, e1, e2, e3, e4, e5, e6, e7, e8]

/-- The exponent field of a block, a block of zeros taken as one half's. -/
def expoS (m : EReal) : BitVec 32 := Scalar.select (IntOp.cmpi .eq (searchS m) 0#32) 126#32 (searchS m)

/-- The block exponent plus three as the reference takes it. -/
def refE (a : EReal) : EReal :=
  Scalar.select (Ideal.cmp .oeq a 0) 0 (Ideal.liftRound Int.floor (Ideal.div (Ideal.log a) (Ideal.log ((2 : ℝ) : EReal))) + ((1 : ℝ) : EReal))

/-- What the precondition asks of a block's largest magnitude. -/
def Fits (a : EReal) : Prop := a = 0 ∨ ((((2 : ℝ) ^ (-125 : ℤ) : ℝ) : EReal) ≤ a ∧ a < (((2 : ℝ) ^ (128 : ℤ) : ℝ) : EReal))

theorem Fits.lt_top {a : EReal} (h : Fits a) : a < ⊤ := by
  rcases h with rfl | ⟨_, h⟩
  · exact EReal.zero_lt_top
  · exact h.trans (EReal.coe_lt_top _)

theorem log_floor (r : ℝ) (k : ℤ) (h1 : (2 : ℝ) ^ k ≤ r) (h2 : r < (2 : ℝ) ^ (k + 1)) : ⌊Real.log r / Real.log 2⌋ = k := by
  have hr : 0 < r := lt_of_lt_of_le (by positivity) h1
  rw [Int.floor_eq_iff]
  have hl : (0 : ℝ) < Real.log 2 := Real.log_pos (by norm_num)
  constructor
  · rw [le_div_iff₀ hl, ← Real.log_zpow]
    exact Real.log_le_log (by positivity) h1
  · rw [div_lt_iff₀ hl]
    have := Real.log_lt_log hr h2
    rw [Real.log_zpow] at this
    push_cast at this
    exact this

/-- The kernel's field and the reference's exponent of one block. -/
theorem expo_spec (a : EReal) (h : Fits a) :
    ∃ E : ℕ, 2 ≤ E ∧ E ≤ 254 ∧ expoS a = BitVec.ofNat 32 E ∧ refE a = ((((E : ℤ) - 126 : ℤ) : ℝ) : EReal) := by
  obtain ⟨n, hs, hn, hlo, hhi⟩ := searchS_spec a h.lt_top
  rcases h with rfl | ⟨h1, h2⟩
  · have h0 : n = 0 := by
      rcases hlo with h | h
      · exact h
      · by_contra hne; exact absurd (pw_pos n (by omega)) (not_lt.mpr h)
    subst h0
    refine ⟨126, by omega, by omega, ?_, ?_⟩
    · unfold expoS; rw [hs]; decide
    · simp [refE, Scalar.select, Ideal.cmp]
  · have hp : (0 : EReal) < a := lt_of_lt_of_le (EReal.coe_pos.mpr (by positivity)) h1
    have hr : ∃ r : ℝ, a = (r : EReal) := by
      refine ⟨a.toReal, (EReal.coe_toReal ?_ ?_).symm⟩
      · exact (h2.trans (EReal.coe_lt_top _)).ne
      · exact (lt_of_le_of_lt bot_le hp).ne'
    obtain ⟨r, rfl⟩ := hr
    rw [EReal.coe_le_coe_iff] at h1
    rw [EReal.coe_lt_coe_iff] at h2
    have hr0 : 0 < r := lt_of_lt_of_le (by positivity) h1
    have hn2 : 2 ≤ n := by
      by_contra hc
      have hc : n = 0 ∨ n = 1 := by omega
      have : r < (2 : ℝ) ^ (-125 : ℤ) := by
        rcases hc with rfl | rfl
        · rw [pw_mid _ (by omega) (by omega), EReal.coe_lt_coe_iff] at hhi
          exact hhi.trans (zpow_lt_zpow_right₀ (by norm_num) (by norm_num))
        · rw [pw_mid _ (by omega) (by omega), EReal.coe_lt_coe_iff] at hhi
          exact hhi.trans_le (le_of_eq (by norm_num))
      exact absurd h1 (not_le.mpr this)
    have hlo : pw n ≤ (r : EReal) := hlo.resolve_left (by omega)
    have hn254 : n ≤ 254 := by
      by_contra hc
      rw [pw_top _ (by omega)] at hlo
      exact absurd hlo (not_le.mpr (EReal.coe_lt_top _))
    rw [pw_mid _ (by omega) hn254, EReal.coe_le_coe_iff] at hlo
    have hhi : r < (2 : ℝ) ^ (((n : ℤ) - 127) + 1) := by
      by_cases hc : n = 254
      · subst hc; exact h2.trans_le (le_of_eq (by norm_num))
      · rw [pw_mid _ (by omega) (by omega), EReal.coe_lt_coe_iff] at hhi
        refine hhi.trans_le (le_of_eq ?_)
        congr 1; push_cast; ring
    refine ⟨n, hn2, hn254, ?_, ?_⟩
    · unfold expoS; rw [hs]
      have : ∀ k : Fin 255, 2 ≤ k.val → Scalar.select (IntOp.cmpi .eq (BitVec.ofNat 32 k.val) 0#32) 126#32 (BitVec.ofNat 32 k.val) = BitVec.ofNat 32 k.val := by
        decide +kernel
      exact this ⟨n, by omega⟩ hn2
    · have hl : (0 : ℝ) < Real.log 2 := Real.log_pos (by norm_num)
      have hne : ¬ ((r : EReal) = 0) := hp.ne'
      unfold refE
      rw [show Ideal.cmp .oeq (r : EReal) 0 = 0#1 from by simp only [Ideal.cmp, hne]; rfl]
      rw [show ∀ x y : EReal, Scalar.select 0#1 x y = y from fun _ _ => rfl]
      rw [Ideal.log_coe, if_neg (not_le.mpr hr0), Ideal.log_coe, if_neg (by norm_num), Ideal.div_coe hl.ne', ← EReal.coe_mul,
        Ideal.liftRound_coe, mul_one_div, log_floor r _ hlo hhi, ← EReal.coe_add]
      congr 1
      push_cast; ring

/-! ## Powers from the exponent -/

theorem rpow_int (k : ℤ) : Ideal.pow ((2 : ℝ) : EReal) (((k : ℤ) : ℝ) : EReal) = (((2 : ℝ) ^ k : ℝ) : EReal) := by
  rw [Ideal.pow_coe_coe]; congr 1; exact Real.rpow_intCast 2 k

/-! ## Rounding and clamping -/

theorem round_le (t : ℝ) (n : ℤ) (h : t ≤ n) : Ideal.roundHalfEven t ≤ n := by
  have hf : ⌊t⌋ ≤ n := by have := (Int.floor_le t).trans h; exact_mod_cast this
  have key : ¬ (t - ⌊t⌋ < 1 / 2) → ⌊t⌋ + 1 ≤ n := fun hc => by
    have h1 : ((⌊t⌋ : ℤ) : ℝ) < n := by linarith
    have : ⌊t⌋ < n := by exact_mod_cast h1
    omega
  unfold Ideal.roundHalfEven
  dsimp only
  split
  · exact hf
  · rename_i hc
    split
    · exact key hc
    · split
      · exact hf
      · exact key hc

theorem le_round (t : ℝ) (n : ℤ) (h : n ≤ t) : n ≤ Ideal.roundHalfEven t := by
  have hf : n ≤ ⌊t⌋ := Int.le_floor.mpr h
  unfold Ideal.roundHalfEven
  dsimp only
  split
  · exact hf
  · split
    · omega
    · split <;> omega

/-- The code of a scaled element: rounded to nearest even, then clamped to seven. -/
def codeInt (t : ℝ) : ℤ := min 7 (max (-7) (Ideal.roundHalfEven t))

theorem codeInt_bounds (t : ℝ) : -7 ≤ codeInt t ∧ codeInt t ≤ 7 := by unfold codeInt; omega

theorem clamp_then_round (t : ℝ) :
    Ideal.liftRound Ideal.roundHalfEven (min (((7 : ℤ) : ℝ) : EReal) (max (((-7 : ℤ) : ℝ) : EReal) (t : EReal))) = ((codeInt t : ℝ) : EReal) := by
  unfold codeInt
  rcases le_total t ((-7 : ℤ) : ℝ) with h | h
  · rw [max_eq_left (EReal.coe_le_coe_iff.mpr h), min_eq_right (EReal.coe_le_coe_iff.mpr (by norm_num)), Ideal.liftRound_coe]
    have h1 := round_le t (-7) h
    have h2 := round_le ((-7 : ℤ) : ℝ) (-7) le_rfl
    have h3 := le_round ((-7 : ℤ) : ℝ) (-7) le_rfl
    congr 2; omega
  · rw [max_eq_right (EReal.coe_le_coe_iff.mpr h)]
    have h0 := le_round t (-7) h
    rcases le_total t ((7 : ℤ) : ℝ) with h' | h'
    · rw [min_eq_right (EReal.coe_le_coe_iff.mpr h'), Ideal.liftRound_coe]
      have h1 := round_le t 7 h'
      congr 2; omega
    · rw [min_eq_left (EReal.coe_le_coe_iff.mpr h'), Ideal.liftRound_coe]
      have h1 := le_round t 7 h'
      have h2 := round_le ((7 : ℤ) : ℝ) 7 le_rfl
      have h3 := le_round ((7 : ℤ) : ℝ) 7 le_rfl
      congr 2; omega

theorem round_then_clamp (t : ℝ) :
    min (((7 : ℤ) : ℝ) : EReal) (max (((-7 : ℤ) : ℝ) : EReal) (Ideal.liftRound Ideal.roundHalfEven (t : EReal))) = ((codeInt t : ℝ) : EReal) := by
  have hmono : Monotone fun z : ℤ => (((z : ℤ) : ℝ) : EReal) := fun a b h => EReal.coe_le_coe_iff.mpr (by exact_mod_cast h)
  rw [Ideal.liftRound_coe]
  unfold codeInt
  exact ((hmono.map_min (a := 7) (b := max (-7) (Ideal.roundHalfEven t))).trans (congrArg _ (hmono.map_max ..))).symm

theorem fptosi_int (w : ℕ) (n : ℤ) (h1 : -(2 ^ (w - 1) : ℕ) ≤ n) (h2 : n ≤ (2 ^ (w - 1) : ℕ) - 1) :
    Ideal.fptosi w (((n : ℤ) : ℝ) : EReal) = BitVec.ofInt w n := by
  unfold Ideal.fptosi
  rw [Ideal.toIntClamped_coe, Int.floor_intCast, Int.ceil_intCast, ite_self, min_eq_right h2, max_eq_right h1]

/-! ## The weights -/

/-- The low half's byte as a small float keeps it. -/
def lowByte (w : BitVec 8) : BitVec 8 := (w &&& 7#8) ||| ((w <<< 4) &&& 128#8)
/-- The high half's. -/
def highByte (w : BitVec 8) : BitVec 8 := ((w >>> 4) &&& 7#8) ||| (w &&& 128#8)

/-- The integer four bits stand for: a sign and a magnitude. -/
def nibS (q : BitVec 32) : BitVec 32 := IntOp.muli (IntOp.andi q 7#32) (IntOp.subi 1#32 (IntOp.muli 2#32 (IntOp.shrsi .host q 3#32)))
def lowNib (w : BitVec 8) : BitVec 32 := nibS (IntOp.andi (w.setWidth 32) 15#32)
def highNib (w : BitVec 8) : BitVec 32 := nibS (IntOp.shrsi .host (w.setWidth 32) 4#32)

theorem fp8_fields : ∀ b : Fin 256,
    (((lowByte (BitVec.ofNat 8 b.val)).extractLsb' 3 4).toNat = 0
      ∧ (if ((lowByte (BitVec.ofNat 8 b.val)).extractLsb' 7 1 == 1#1) = true then -(((lowByte (BitVec.ofNat 8 b.val)).extractLsb' 0 3).toNat : ℤ)
          else ((lowByte (BitVec.ofNat 8 b.val)).extractLsb' 0 3).toNat) = (lowNib (BitVec.ofNat 8 b.val)).toInt)
    ∧ (((highByte (BitVec.ofNat 8 b.val)).extractLsb' 3 4).toNat = 0
      ∧ (if ((highByte (BitVec.ofNat 8 b.val)).extractLsb' 7 1 == 1#1) = true then -(((highByte (BitVec.ofNat 8 b.val)).extractLsb' 0 3).toNat : ℤ)
          else ((highByte (BitVec.ofNat 8 b.val)).extractLsb' 0 3).toNat) = (highNib (BitVec.ofNat 8 b.val)).toInt) := by
  decide +kernel

theorem small_float (b : BitVec 8) (n : ℤ) (h0 : (b.extractLsb' 3 4).toNat = 0)
    (hn : (if (b.extractLsb' 7 1 == 1#1) = true then -((b.extractLsb' 0 3).toNat : ℤ) else (b.extractLsb' 0 3).toNat) = n) :
    Ideal.ofBits .fp8e4m3 b = (((n : ℝ) * (2 : ℝ) ^ (-9 : ℤ) : ℝ) : EReal) := by
  show Ideal.e4m3fn b = _
  unfold Ideal.e4m3fn
  dsimp only
  rw [h0, if_neg (by omega), if_pos rfl]
  congr 2
  rw [← hn]
  split <;> push_cast <;> ring

theorem low_float (w : BitVec 8) : Ideal.ofBits .fp8e4m3 (lowByte w) = ((((lowNib w).toInt : ℝ) * (2 : ℝ) ^ (-9 : ℤ) : ℝ) : EReal) := by
  have h := (fp8_fields ⟨w.toNat, w.isLt⟩).1
  simp only [BitVec.ofNat_toNat, BitVec.setWidth_eq] at h
  exact small_float _ _ h.1 h.2

theorem high_float (w : BitVec 8) : Ideal.ofBits .fp8e4m3 (highByte w) = ((((highNib w).toInt : ℝ) * (2 : ℝ) ^ (-9 : ℤ) : ℝ) : EReal) := by
  have h := (fp8_fields ⟨w.toNat, w.isLt⟩).2
  simp only [BitVec.ofNat_toNat, BitVec.setWidth_eq] at h
  exact small_float _ _ h.1 h.2

/-- A block scale's exponent field. -/
def scaleField (e : BitVec 8) : BitVec 32 := IntOp.maxsi (IntOp.addi (e.signExtend 32) 136#32) 0#32

theorem scaleField_eq : ∀ b : Fin 256, (BitVec.ofNat 8 b.val).toInt ≤ 118 →
    scaleField (BitVec.ofNat 8 b.val) = BitVec.ofNat 32 ((BitVec.ofNat 8 b.val).toInt + 136).toNat := by decide +kernel

theorem toInt_ge (e : BitVec 8) : -128 ≤ e.toInt := by have := BitVec.le_toInt e; simpa using this

/-- The kernel's scale of a block: 2 to the exponent plus nine. -/
theorem scale_float (e : BitVec 8) (h : e.toInt ≤ 118) : powerS (scaleField e) = (((2 : ℝ) ^ (e.toInt + 9) : ℝ) : EReal) := by
  have h' := scaleField_eq ⟨e.toNat, e.isLt⟩
  simp only [BitVec.ofNat_toNat, BitVec.setWidth_eq] at h'
  have := toInt_ge e
  rw [h' h, powerS_apply _ (by omega), pw_mid _ (by omega) (by omega)]
  congr 2
  omega

/-- A weight: the kernel's small float times its scale is the reference's integer times its own. -/
theorem weight (n k : ℤ) : ((((n : ℝ) * (2 : ℝ) ^ (-9 : ℤ) : ℝ) : EReal)) * (((2 : ℝ) ^ (k + 9) : ℝ) : EReal)
    = ((n : ℝ) : EReal) * Ideal.pow ((2 : ℝ) : EReal) (((k : ℤ) : ℝ) : EReal) := by
  rw [rpow_int, ← EReal.coe_mul, ← EReal.coe_mul]
  congr 1
  rw [mul_assoc, ← zpow_add₀ (by norm_num)]
  congr 2
  ring

end Cert.Scalars

end
-- ==== Proof.Quantised.lean ====
/-
  One element quantised, as an integer code and an exponent: what the kernel's steps and the reference's both come to.
-/
module

public import proofs.«01_k».proof.Proof.Scalars

@[expose] public section

noncomputable section

namespace Cert.Scalars

open Idealize.ShloMosaic

/-- The exponent field found for a block whose largest magnitude is `a`. -/
def fieldOf (a : EReal) : ℕ := (expoS a).toNat
/-- The block's exponent. -/
def expOf (a : EReal) : ℤ := (fieldOf a : ℤ) - 129
/-- The code of `v` in that block. -/
def codeOf (v a : EReal) : ℤ := codeInt (v.toReal * (2 : ℝ) ^ (129 - (fieldOf a : ℤ)))

theorem fieldOf_spec (a : EReal) (h : Fits a) : 2 ≤ fieldOf a ∧ fieldOf a ≤ 254 ∧ expoS a = BitVec.ofNat 32 (fieldOf a)
    ∧ refE a = ((((fieldOf a : ℤ) - 126 : ℤ) : ℝ) : EReal) := by
  obtain ⟨E, h1, h2, h3, h4⟩ := expo_spec a h
  have e : fieldOf a = E := by unfold fieldOf; rw [h3, BitVec.toNat_ofNat]; omega
  rw [e]
  exact ⟨h1, h2, h3, h4⟩

theorem finite_of_le (v a : EReal) (h : Fits a) (hv : max v (-v) ≤ a) : ∃ r : ℝ, v = (r : EReal) := by
  have ha := h.lt_top
  have h1 : v < ⊤ := lt_of_le_of_lt (le_trans (le_max_left _ _) hv) ha
  have h2 : -v < ⊤ := lt_of_le_of_lt (le_trans (le_max_right _ _) hv) ha
  have h3 : v ≠ ⊥ := by
    rintro rfl
    rw [EReal.neg_bot] at h2
    exact lt_irrefl _ h2
  exact ⟨v.toReal, (EReal.coe_toReal h1.ne h3).symm⟩

theorem ieee_of (e m : ℕ) {w : ℕ} (b : BitVec w) (neg : Bool) (ex fr : ℕ) (h1 : (b.extractLsb' (e + m) 1 == 1#1) = neg)
    (h2 : (b.extractLsb' m e).toNat = ex) (h3 : (b.extractLsb' 0 m).toNat = fr) :
    Ideal.ieee e m b = if ex = 2 ^ e - 1 then (if fr = 0 then (if neg then ⊥ else ⊤) else ⊥)
      else if ex = 0 then ((((if neg then -1 else 1 : ℝ)) * fr * (2 : ℝ) ^ (1 - (2 ^ (e - 1) - 1) - m : Int) : ℝ) : EReal)
      else ((((if neg then -1 else 1 : ℝ)) * (2 ^ m + fr : Nat) * (2 : ℝ) ^ ((ex : Int) - (2 ^ (e - 1) - 1) - m) : ℝ) : EReal) := by
  subst h1 h2 h3; rfl
theorem bf16_zero : Ideal.ofBits .bf16 0x0000#16 = 0 := by
  rw [show Ideal.ofBits .bf16 0x0000#16 = Ideal.ieee 8 7 0x0000#16 from rfl, ieee_of 8 7 0x0000#16 false 0 0 (by decide) (by decide) (by decide)]
  norm_num
theorem bf16_seven : Ideal.ofBits .bf16 0x40E0#16 = (((7 : ℤ) : ℝ) : EReal) := by
  rw [show Ideal.ofBits .bf16 0x40E0#16 = Ideal.ieee 8 7 0x40E0#16 from rfl, ieee_of 8 7 0x40E0#16 false 129 96 (by decide) (by decide) (by decide)]
  norm_num
theorem bf16_neg_seven : Ideal.ofBits .bf16 0xC0E0#16 = (((-7 : ℤ) : ℝ) : EReal) := by
  rw [show Ideal.ofBits .bf16 0xC0E0#16 = Ideal.ieee 8 7 0xC0E0#16 from rfl, ieee_of 8 7 0xC0E0#16 true 129 96 (by decide) (by decide) (by decide)]
  norm_num
theorem bf16_quarter : Ideal.ofBits .bf16 0x3E80#16 = (((2 : ℝ) ^ (-2 : ℤ) : ℝ) : EReal) := by
  rw [show Ideal.ofBits .bf16 0x3E80#16 = Ideal.ieee 8 7 0x3E80#16 from rfl, ieee_of 8 7 0x3E80#16 false 125 0 (by decide) (by decide) (by decide)]
  norm_num
theorem f32_two : Ideal.ofBits .f32 0x40000000#32 = ((2 : ℝ) : EReal) := by
  rw [show Ideal.ofBits .f32 0x40000000#32 = Ideal.ieee 8 23 0x40000000#32 from rfl, ieee_of 8 23 0x40000000#32 false 128 0 (by decide) (by decide) (by decide)]
  norm_num
theorem f32_one : Ideal.ofBits .f32 0x3F800000#32 = ((1 : ℝ) : EReal) := by
  rw [show Ideal.ofBits .f32 0x3F800000#32 = Ideal.ieee 8 23 0x3F800000#32 from rfl, ieee_of 8 23 0x3F800000#32 false 127 0 (by decide) (by decide) (by decide)]
  norm_num
theorem f32_three : Ideal.ofBits .f32 0x40400000#32 = ((3 : ℝ) : EReal) := by
  rw [show Ideal.ofBits .f32 0x40400000#32 = Ideal.ieee 8 23 0x40400000#32 from rfl, ieee_of 8 23 0x40400000#32 false 128 4194304 (by decide) (by decide) (by decide)]
  norm_num
theorem f32_zero : Ideal.ofBits .f32 0x00000000#32 = 0 := by
  rw [show Ideal.ofBits .f32 0x00000000#32 = Ideal.ieee 8 23 0x00000000#32 from rfl, ieee_of 8 23 0x00000000#32 false 0 0 (by decide) (by decide) (by decide)]
  norm_num
theorem f32_bot : Ideal.ofBits .f32 0xFF800000#32 = ⊥ := by
  rw [show Ideal.ofBits .f32 0xFF800000#32 = Ideal.ieee 8 23 0xFF800000#32 from rfl, ieee_of 8 23 0xFF800000#32 true 255 0 (by decide) (by decide) (by decide)]
  norm_num

theorem recip_field : ∀ n : Fin 255, 2 ≤ n.val → IntOp.subi 256#32 (BitVec.ofNat 32 n.val) = BitVec.ofNat 32 (256 - n.val) := by
  decide +kernel

theorem zero_or (v x : EReal) (hx : v = 0 → x = 0) : Scalar.select (Ideal.cmp .oeq v 0) 0 x = x := by
  unfold Scalar.select Ideal.cmp
  by_cases h : v = 0
  · rw [hx h]; simp
  · simp [h]

/-- The kernel's code. -/
theorem kernel_code (v a : EReal) (h : Fits a) (hv : max v (-v) ≤ a) :
    Ideal.liftRound Ideal.roundHalfEven (min (Ideal.ofBits .bf16 0x40E0#16) (max (Ideal.ofBits .bf16 0xC0E0#16)
      (Scalar.select (Ideal.cmp .oeq v (Ideal.ofBits .bf16 0x0000#16)) (Ideal.ofBits .bf16 0x0000#16)
        (v * powerS (IntOp.subi 256#32 (expoS a)))))) = (((codeOf v a : ℤ) : ℝ) : EReal) := by
  obtain ⟨h1, h2, h3, -⟩ := fieldOf_spec a h
  obtain ⟨r, rfl⟩ := finite_of_le v a h hv
  have hr : IntOp.subi 256#32 (BitVec.ofNat 32 (fieldOf a)) = BitVec.ofNat 32 (256 - fieldOf a) := recip_field ⟨fieldOf a, by omega⟩ h1
  rw [h3, hr, powerS_apply _ (by omega), pw_mid _ (by omega) (by omega), bf16_zero,
    bf16_seven, bf16_neg_seven, zero_or _ _ (fun e => by rw [e, zero_mul]), ← EReal.coe_mul, clamp_then_round]
  unfold codeOf
  rw [EReal.toReal_coe]
  congr 5
  omega

/-- The kernel's operand. -/
theorem kernel_operand (v a : EReal) (h : Fits a) :
    (((codeOf v a : ℤ) : ℝ) : EReal) * (powerS (expoS a) * Ideal.ofBits .bf16 0x3E80#16)
      = (((codeOf v a : ℝ) * (2 : ℝ) ^ expOf a : ℝ) : EReal) := by
  obtain ⟨h1, h2, h3, -⟩ := fieldOf_spec a h
  rw [h3, powerS_apply _ (by omega), pw_mid _ (by omega) (by omega), bf16_quarter, ← EReal.coe_mul, ← EReal.coe_mul,
    ← zpow_add₀ (by norm_num)]
  rw [show (fieldOf a : ℤ) - 127 + -2 = expOf a from by unfold expOf; omega]

theorem expOf_bounds (a : EReal) (h : Fits a) : -127 ≤ expOf a ∧ expOf a ≤ 125 := by
  obtain ⟨h1, h2, -, -⟩ := fieldOf_spec a h
  unfold expOf; omega

theorem exp_field : ∀ n : Fin 255, IntOp.subi (BitVec.ofNat 32 n.val) 129#32 = BitVec.ofInt 32 ((n.val : ℤ) - 129) := by
  decide +kernel

/-- The kernel's exponent. -/
theorem kernel_exp (a : EReal) (h : Fits a) : IntOp.subi (expoS a) 129#32 = BitVec.ofInt 32 (expOf a) := by
  obtain ⟨h1, h2, h3, -⟩ := fieldOf_spec a h
  rw [h3]
  exact exp_field ⟨fieldOf a, by omega⟩

/-- The reference's exponent. -/
theorem ref_exp (a : EReal) (h : Fits a) : Ideal.fptosi 32 (refE a - ((3 : ℝ) : EReal)) = BitVec.ofInt 32 (expOf a) := by
  obtain ⟨h1, h2, -, h4⟩ := fieldOf_spec a h
  rw [h4, ← EReal.coe_sub, show ((((fieldOf a : ℤ) - 126 : ℤ) : ℝ) - 3) = ((expOf a : ℤ) : ℝ) from by unfold expOf; push_cast; ring]
  have := expOf_bounds a h
  exact fptosi_int 32 _ (by norm_num; omega) (by norm_num; omega)

theorem exp_word : ∀ n : Fin 256, (((BitVec.ofInt 32 ((n.val : ℤ) - 128)).setWidth 8).signExtend 32).toInt = (n.val : ℤ) - 128 := by
  decide +kernel

/-- The reference's power of two, from the exponent it stored. -/
theorem ref_power (a : EReal) (h : Fits a) :
    Ideal.pow ((2 : ℝ) : EReal) (((((BitVec.ofInt 32 (expOf a)).setWidth 8).signExtend 32).toInt : ℝ) : EReal)
      = (((2 : ℝ) ^ expOf a : ℝ) : EReal) := by
  have hb := expOf_bounds a h
  have := exp_word ⟨(expOf a + 128).toNat, by omega⟩
  rw [show (((expOf a + 128).toNat : ℤ) - 128) = expOf a by omega] at this
  rw [this]
  exact rpow_int _

/-- The reference's code. -/
theorem ref_code (v a : EReal) (h : Fits a) (hv : max v (-v) ≤ a) :
    min ((((7#32).toInt : ℝ)) : EReal) (max ((((4294967289#32).toInt : ℝ)) : EReal)
      (Ideal.liftRound Ideal.roundHalfEven (v * Ideal.pow ((2 : ℝ) : EReal) (((3 : ℝ) : EReal) - refE a))))
      = (((codeOf v a : ℤ) : ℝ) : EReal) := by
  obtain ⟨h1, h2, -, h4⟩ := fieldOf_spec a h
  obtain ⟨r, rfl⟩ := finite_of_le v a h hv
  rw [h4, ← EReal.coe_sub, show ((3 : ℝ) - (((fieldOf a : ℤ) - 126 : ℤ) : ℝ)) = ((129 - (fieldOf a : ℤ) : ℤ) : ℝ) from by push_cast; ring,
    rpow_int, ← EReal.coe_mul]
  refine Eq.trans ?_ (round_then_clamp _)
  rfl

/-- A code as four bits. -/
def bitsOf (q : BitVec 32) : BitVec 32 := IntOp.addi (IntOp.absi q) (Scalar.select (IntOp.cmpi .slt q 0#32) 8#32 0#32)

theorem sign_bit : ∀ c : BitVec 1, IntOp.muli 8#32 (c.setWidth 32) = Scalar.select c 8#32 0#32 := by decide +kernel

theorem bitsOf_ref (q : BitVec 32) : IntOp.addi (IntOp.absi q) (IntOp.muli 8#32 ((IntOp.cmpi .slt q 0#32).setWidth 32)) = bitsOf q := by
  rw [sign_bit]; rfl

theorem codeOf_word (v a : EReal) : Ideal.fptosi 32 (((codeOf v a : ℤ) : ℝ) : EReal) = BitVec.ofInt 32 (codeOf v a) := by
  have := codeInt_bounds (v.toReal * (2 : ℝ) ^ (129 - (fieldOf a : ℤ)))
  unfold codeOf
  exact fptosi_int 32 _ (by norm_num; omega) (by norm_num; omega)

/-- Two codes in one byte, the first one low. -/
def byteOf (p q : ℤ) : BitVec 8 :=
  (IntOp.ori (bitsOf (BitVec.ofInt 32 p)) (bitsOf (BitVec.ofInt 32 q) <<< 4)).setWidth 8

theorem shl_vector (b : BitVec 32) : IntOp.shli .vector b 4#32 = b <<< 4 := rfl
theorem shl_host (b : BitVec 32) : IntOp.shli .host b 4#32 = b <<< 4 := rfl

/-! ## The largest of sixteen -/

/-- Each against the one whose number differs in `s`. -/
def against (s : Fin 16) (g : Fin 16 → EReal) (r : Fin 16) : EReal := max (g r) (g (r ^^^ s))

theorem against_all (f : Fin 16 → EReal) (r : Fin 16) :
    against 8 (against 4 (against 2 (against 1 f))) r = Finset.univ.sup f := by
  refine eq_of_forall_ge_iff fun c => ?_
  unfold against
  simp only [max_le_iff, Finset.sup_le_iff, Finset.mem_univ, true_implies]
  constructor
  · intro h q
    have key : ∀ r q : Fin 16, q = r ∨ q = r ^^^ 1 ∨ q = r ^^^ 2 ∨ q = r ^^^ 2 ^^^ 1 ∨ q = r ^^^ 4 ∨ q = r ^^^ 4 ^^^ 1 ∨ q = r ^^^ 4 ^^^ 2
      ∨ q = r ^^^ 4 ^^^ 2 ^^^ 1 ∨ q = r ^^^ 8 ∨ q = r ^^^ 8 ^^^ 1 ∨ q = r ^^^ 8 ^^^ 2 ∨ q = r ^^^ 8 ^^^ 2 ^^^ 1 ∨ q = r ^^^ 8 ^^^ 4
      ∨ q = r ^^^ 8 ^^^ 4 ^^^ 1 ∨ q = r ^^^ 8 ^^^ 4 ^^^ 2 ∨ q = r ^^^ 8 ^^^ 4 ^^^ 2 ^^^ 1 := by decide +kernel
    obtain ⟨⟨⟨⟨a0, a1⟩, a2, a3⟩, ⟨a4, a5⟩, a6, a7⟩, ⟨⟨a8, a9⟩, a10, a11⟩, ⟨a12, a13⟩, a14, a15⟩ := h
    rcases key r q with h | h | h | h | h | h | h | h | h | h | h | h | h | h | h | h <;> rw [h] <;> assumption
  · intro h
    exact ⟨⟨⟨⟨h _, h _⟩, h _, h _⟩, ⟨h _, h _⟩, h _, h _⟩, ⟨⟨h _, h _⟩, h _, h _⟩, ⟨h _, h _⟩, h _, h _⟩

/-! ## Rows and columns -/

/-- The largest magnitude of block `b` of row `r`. -/
def amax (X : ℕ → ℕ → EReal) (r b : ℕ) : EReal := Finset.univ.sup fun q : Fin 16 => max (X r (16 * b + q.val)) (-(X r (16 * b + q.val)))

theorem le_amax (X : ℕ → ℕ → EReal) (r c : ℕ) : max (X r c) (-(X r c)) ≤ amax X r (c / 16) := by
  have h := Finset.le_sup (f := fun q : Fin 16 => max (X r (16 * (c / 16) + q.val)) (-(X r (16 * (c / 16) + q.val))))
    (Finset.mem_univ (⟨c % 16, Nat.mod_lt _ (by decide)⟩ : Fin 16))
  have e : 16 * (c / 16) + c % 16 = c := Nat.div_add_mod c 16
  simp only [e] at h
  exact h

/-- The code at row `r`, column `c`; the exponent of its block. -/
def codeAt (X : ℕ → ℕ → EReal) (r c : ℕ) : ℤ := codeOf (X r c) (amax X r (c / 16))
def expAt (X : ℕ → ℕ → EReal) (r b : ℕ) : ℤ := expOf (amax X r b)

/-- The weight at output `o`, column `k`, from one half of its byte and the block's exponent; the two halves'. -/
def wAt (nib : BitVec 8 → BitVec 32) (W E : ℕ → ℕ → BitVec 8) (o k : ℕ) : EReal :=
  ((((nib (W o k)).toInt : ℝ) * (2 : ℝ) ^ (E o (k / 16)).toInt : ℝ) : EReal)
def wLow (W E : ℕ → ℕ → BitVec 8) : ℕ → ℕ → EReal := wAt lowNib W E
def wHigh (W E : ℕ → ℕ → BitVec 8) : ℕ → ℕ → EReal := wAt highNib W fun o => E (9472 + o)
/-- The input at row `r`, column `k`, quantised. -/
def xQuant (X : ℕ → ℕ → EReal) (r k : ℕ) : EReal := (((codeAt X r k : ℝ) * (2 : ℝ) ^ expAt X r (k / 16) : ℝ) : EReal)

/-- The product at row `r` and output `o`, over all the columns. -/
def dotAt (x w : ℕ → ℕ → EReal) (r o : ℕ) : EReal := ∑ k ∈ Finset.range 3584, x r k * w o k
/-- The first result: the low halves' products, then the high halves'. -/
def outAt (X : ℕ → ℕ → EReal) (W E : ℕ → ℕ → BitVec 8) (r c : ℕ) : EReal :=
  if c < 9472 then dotAt (xQuant X) (wLow W E) r c else dotAt (xQuant X) (wHigh W E) r (c - 9472)

end Cert.Scalars

end
-- ==== Proof.KernelX.lean ====
/-
  The kernel's quantised input over the extended reals: each stored value as an integer code and an exponent.
-/
module

public import proofs.«01_k».proof.Proof.Lanes
public import proofs.«01_k».proof.Proof.Quantised
public import Idealize.ShloMosaic.Lib.KernelVsHost

@[expose] public section

set_option maxRecDepth 16384

noncomputable section

namespace Cert.KernelIdeal.Hand

open Idealize.ShloMosaic Idealize.ShloMosaic.TcCoe
open Cert.KernelIdeal Cert.KernelIdeal.Gen Cert.Scalars

/-- A lane's number in its block. -/
def within (i : S256x128.Idx) : Fin 16 := ⟨(i 1).val % 16, Nat.mod_lt _ (by decide)⟩
/-- Lane `q` of the block lane `i` is in. -/
def mate (i : S256x128.Idx) (q : Fin 16) : S256x128.Idx :=
  atLane (16 * ((i 1).val / 16) + q.val) (by have h : (i 1).val < 128 := (i 1).isLt; omega) i

theorem mate_self (i : S256x128.Idx) : mate i (within i) = i := by
  funext b
  match b with
  | ⟨0, _⟩ => rfl
  | ⟨1, _⟩ => exact Fin.ext (Nat.div_add_mod _ 16)

theorem within_mate (i : S256x128.Idx) (q : Fin 16) : within (mate i q) = q := by
  apply Fin.ext
  show (16 * ((i 1).val / 16) + q.val) % 16 = q.val
  omega

theorem mate_mate (i : S256x128.Idx) (q p : Fin 16) : mate (mate i q) p = mate i p := by
  funext b
  match b with
  | ⟨0, _⟩ => rfl
  | ⟨1, _⟩ =>
    apply Fin.ext
    show 16 * ((16 * ((i 1).val / 16) + q.val) / 16) + p.val = 16 * ((i 1).val / 16) + p.val
    omega

theorem xor_lane : ∀ (c : Fin 128) (s : Fin 16), IntOp.xori (BitVec.ofNat 32 c.val) (BitVec.ofNat 32 s.val)
    = BitVec.ofNat 32 (16 * (c.val / 16) + ((⟨c.val % 16, Nat.mod_lt _ (by decide)⟩ : Fin 16) ^^^ s).val) := by decide +kernel

theorem meet_apply (s : Fin 16) (m : FVec Ideal S256x128 .bf16) (i : S256x128.Idx) (q : Fin 16) :
    meet (BitVec.ofNat 32 s.val) m (mate i q) = against s (fun q => m (mate i q)) q := by
  have hi : ((mate i q) 1).val < 128 := ((mate i q) 1).isLt
  have h : xori lane (word (BitVec.ofNat 32 s.val)) (mate i q) = BitVec.ofNat 32 (16 * (((mate i q) 1).val / 16) + (within (mate i q) ^^^ s).val) := by
    refine Eq.trans ?_ (xor_lane ((mate i q) 1) s)
    show IntOp.xori (lane (mate i q)) _ = _
    rw [lane_apply]
    rfl
  have hg := gather16_apply m _ (mate i q) _ (by omega) h
  show max (m (mate i q)) (gather16 m _ (mate i q)) = max (m (mate i q)) (m (mate i (q ^^^ s)))
  rw [hg]
  show max _ (m (mate (mate i q) (within (mate i q) ^^^ s))) = _
  rw [within_mate, mate_mate]

theorem meets (s : Fin 16) (m : FVec Ideal S256x128 .bf16) (i : S256x128.Idx) :
    (fun q => meet (BitVec.ofNat 32 s.val) m (mate i q)) = against s (fun q => m (mate i q)) := funext fun q => meet_apply s m i q

theorem blockMax_mate (v : FVec Ideal S256x128 .bf16) (i : S256x128.Idx) (q : Fin 16) :
    blockMax v (mate i q) = Finset.univ.sup fun q : Fin 16 => max (v (mate i q)) (-(v (mate i q))) := by
  have e1 : (fun q => meet 1#32 (absf v) (mate i q)) = against 1 (fun q : Fin 16 => max (v (mate i q)) (-(v (mate i q)))) := meets 1 (absf v) i
  unfold blockMax
  rw [← against_all _ q, ← e1]
  generalize meet 1#32 (absf v) = m1
  have e2 : (fun q => meet 2#32 m1 (mate i q)) = against 2 (fun q => m1 (mate i q)) := meets 2 m1 i
  rw [← e2]
  generalize meet 2#32 m1 = m2
  have e4 : (fun q => meet 4#32 m2 (mate i q)) = against 4 (fun q => m2 (mate i q)) := meets 4 m2 i
  rw [← e4]
  generalize meet 4#32 m2 = m4
  exact meet_apply 8 m4 i q

theorem blockMax_apply (v : FVec Ideal S256x128 .bf16) (i : S256x128.Idx) :
    blockMax v i = Finset.univ.sup fun q : Fin 16 => max (v (mate i q)) (-(v (mate i q))) := by
  refine Eq.trans ?_ (blockMax_mate v i (within i))
  rw [mate_self]

theorem probe_apply (m : FVec Ideal S256x128 .f32) (b : BitVec 32) (e : IVec S256x128 32) (i : S256x128.Idx) :
    probe m b e i = probeS (m i) b (e i) := rfl

theorem search_apply (m : FVec Ideal S256x128 .f32) (i : S256x128.Idx) : search m i = searchS (m i) := by
  unfold search searchS
  simp only [probe_apply]
  rfl

theorem expo_apply (v : FVec Ideal S256x128 .bf16) (i : S256x128.Idx) : expo v i = expoS (blockMax v i) := by
  unfold expo expoS
  rw [show blockMax v i = (extf .f32 (blockMax v) bitsLt_bf16_f32 : FVec Ideal S256x128 .f32) i from rfl, ← search_apply]
  generalize search (extf .f32 (blockMax v) bitsLt_bf16_f32 : FVec Ideal S256x128 .f32) = s
  rfl

theorem code_scalar (v : FVec Ideal S256x128 .bf16) (e : IVec S256x128 32) (i : S256x128.Idx) :
    code v e i = Ideal.liftRound Ideal.roundHalfEven (min (Ideal.ofBits .bf16 0x40E0#16) (max (Ideal.ofBits .bf16 0xC0E0#16)
      (Scalar.select (Ideal.cmp .oeq (v i) (Ideal.ofBits .bf16 0x0000#16)) (Ideal.ofBits .bf16 0x0000#16)
        (v i * powerS (IntOp.subi 256#32 (e i)))))) := rfl

theorem operand_scalar (v : FVec Ideal S256x128 .bf16) (e : IVec S256x128 32) (i : S256x128.Idx) :
    operand v e i = code v e i * (powerS (e i) * Ideal.ofBits .bf16 0x3E80#16) := rfl

theorem nibble_scalar (c : FVec Ideal S256x128 .bf16) (i : S256x128.Idx) : nibble c i = bitsOf (Ideal.fptosi 32 (c i)) := rfl

/-! ## A group of the input -/

variable (x : Vec Ideal S256x3584 .bf16) (X : ℕ → ℕ → EReal) (hx : ∀ y : S256x3584.Idx, x y = X (y 0).val (y 1).val)

theorem group_eq {F : FTy → Type} (v : Vec F S256x128 .bf16) : group v = v := shapeCast_self _ _

include hx in
theorem grp_apply (g : ℕ) (hg : g ≤ 27) (i : S256x128.Idx) : grp x g i = X (i 0).val (128 * g + (i 1).val) := by
  unfold grp
  rw [hx]
  show X (i 0).val (128 * min g 27 + (i 1).val) = _
  rw [Nat.min_eq_left hg]

include hx in
theorem grp_max (g : ℕ) (hg : g ≤ 27) (i : S256x128.Idx) :
    blockMax (grp x g) i = amax X (i 0).val ((128 * g + (i 1).val) / 16) := by
  rw [blockMax_apply]
  unfold amax
  congr 1; funext q
  rw [grp_apply x X hx g hg]
  show max (X (i 0).val (128 * g + (16 * ((i 1).val / 16) + q.val))) (-(X (i 0).val (128 * g + (16 * ((i 1).val / 16) + q.val)))) = _
  rw [show 128 * g + (16 * ((i 1).val / 16) + q.val) = 16 * ((128 * g + (i 1).val) / 16) + q.val from by omega]

variable (hfit : ∀ r b, r < 256 → b < 224 → Fits (amax X r b))

include hx hfit

theorem fit_at (g : ℕ) (hg : g ≤ 27) (i : S256x128.Idx) : Fits (amax X (i 0).val ((128 * g + (i 1).val) / 16)) :=
  hfit _ _ (i 0).isLt (by have h : (i 1).val < 128 := (i 1).isLt; omega)

theorem code_apply (g : ℕ) (hg : g ≤ 27) (i : S256x128.Idx) :
    code (grp x g) (expo (grp x g)) i = (((codeAt X (i 0).val (128 * g + (i 1).val) : ℤ) : ℝ) : EReal) := by
  rw [code_scalar, expo_apply, grp_max x X hx g hg i, grp_apply x X hx g hg i]
  exact kernel_code _ _ (fit_at x X hx hfit g hg i) (le_amax X _ _)

theorem operand_apply (g : ℕ) (hg : g ≤ 27) (i : S256x128.Idx) :
    operandOf (grp x g) i = (((codeAt X (i 0).val (128 * g + (i 1).val) : ℝ) * (2 : ℝ) ^ expAt X (i 0).val ((128 * g + (i 1).val) / 16) : ℝ) : EReal) := by
  unfold operandOf
  rw [shapeCast_self, group_eq, operand_scalar, code_apply x X hx hfit g hg i, expo_apply, grp_max x X hx g hg i]
  exact kernel_operand _ _ (fit_at x X hx hfit g hg i)

/-- The operand of the products. -/
theorem XOP_apply (y : S256x3584.Idx) :
    XOP x y = (((codeAt X (y 0).val (y 1).val : ℝ) * (2 : ℝ) ^ expAt X (y 0).val ((y 1).val / 16) : ℝ) : EReal) := by
  have hy : (y 1).val < 3584 := (y 1).isLt
  unfold XOP
  rw [operand_apply x X hx hfit _ (by omega)]
  show (((codeAt X (y 0).val (128 * ((y 1).val / 128) + (y 1).val % 128) : ℝ) * (2 : ℝ) ^ expAt X (y 0).val ((128 * ((y 1).val / 128) + (y 1).val % 128) / 16) : ℝ) : EReal) = _
  rw [Nat.div_add_mod]

/-! ## The packed codes -/

theorem nibble_apply (g : ℕ) (hg : g ≤ 27) (i : S256x128.Idx) :
    nibble (code (grp x g) (expo (grp x g))) i = bitsOf (BitVec.ofInt 32 (codeAt X (i 0).val (128 * g + (i 1).val))) := by
  rw [nibble_scalar, code_apply x X hx hfit g hg i]
  unfold codeAt
  rw [codeOf_word]

omit hx hfit in
theorem rotate_apply (n : IVec S256x128 32) (i : S256x128.Idx) (c : ℕ) (hc : c < 128) (h : c = ((i 1).val + 1) % 128) :
    dynamicRotate 1 127#32 none n rotates_S256x128_d1 i = n (atLane c hc i) := by
  refine dynamicRotate_apply 1 127#32 n rotates_S256x128_d1 i (atLane c hc i) fun a => ?_
  match a with
  | ⟨0, _⟩ => exact (if_neg (fun h => Nat.zero_ne_one (congrArg Fin.val h))).symm
  | ⟨1, _⟩ =>
    refine Eq.trans ?_ (if_pos rfl).symm
    show c = ((i 1).val + 128 - 127 % 128) % 128
    omega

omit hx hfit in
theorem slice_hi (n : IVec S256x128 32) (i : S256x96.Idx) (j : S256x128.Idx) (h0 : (j 0).val = (i 0).val) (h1 : (j 1).val = (i 1).val) :
    extractStridedSlice S256x96 ![0, 0] n slices_S256x128_o0_0_S256x96 i = n j :=
  extractStridedSlice_apply ![0, 0] n slices_S256x128_o0_0_S256x96 i j fun a => by
    match a with
    | ⟨0, _⟩ => exact h0.trans (Nat.zero_add _).symm
    | ⟨1, _⟩ => exact h1.trans (Nat.zero_add _).symm

theorem halves_apply (g : ℕ) (hg : g ≤ 27) (i : S256x128.Idx) :
    halves (grp x g) (expo (grp x g)) i
      = IntOp.ori (bitsOf (BitVec.ofInt 32 (codeAt X (i 0).val (128 * g + (2 * (i 1).val) % 128))))
          (bitsOf (BitVec.ofInt 32 (codeAt X (i 0).val (128 * g + (2 * (i 1).val) % 128 + 1))) <<< 4) := by
  have hi : (i 1).val < 128 := (i 1).isLt
  have hidx : andi (muli lane (word 2#32)) (word 127#32) i = BitVec.ofNat 32 ((2 * (i 1).val) % 128) := by
    have : ∀ c : Fin 128, IntOp.andi (IntOp.muli (BitVec.ofNat 32 c.val) 2#32) 127#32 = BitVec.ofNat 32 ((2 * c.val) % 128) := by decide +kernel
    refine Eq.trans ?_ (this (i 1))
    show IntOp.andi (IntOp.muli (lane i) 2#32) 127#32 = _
    rw [lane_apply]
  unfold halves
  rw [gather_apply _ _ i _ (Nat.mod_lt _ (by decide)) hidx]
  show IntOp.ori (nibble _ _) (IntOp.shli .vector (dynamicRotate 1 127#32 none (nibble _) rotates_S256x128_d1 _) 4#32) = _
  rw [rotate_apply _ _ ((2 * (i 1).val) % 128 + 1) (by omega) (by show _ = ((2 * (i 1).val) % 128 + 1) % 128; omega), shl_vector,
    nibble_apply x X hx hfit g hg, nibble_apply x X hx hfit g hg]
  rfl

theorem bytes_apply (g : ℕ) (hg : g ≤ 13) (i : S256x128.Idx) :
    bytesOf (grp x (2 * g)) (grp x (2 * g + 1)) i
      = byteOf (codeAt X (i 0).val (256 * g + 2 * (i 1).val)) (codeAt X (i 0).val (256 * g + 2 * (i 1).val + 1)) := by
  have hi : (i 1).val < 128 := (i 1).isLt
  unfold bytesOf byteOf bytes
  rw [group_eq, group_eq]
  show BitVec.setWidth 8 (Scalar.select (IntOp.cmpi .slt (lane i) 64#32) (halves (grp x (2 * g)) (expo (grp x (2 * g))) i)
    (halves (grp x (2 * g + 1)) (expo (grp x (2 * g + 1))) i)) = _
  rw [halves_apply x X hx hfit _ (by omega), halves_apply x X hx hfit _ (by omega), lane_apply]
  have hc : ∀ c : Fin 128, IntOp.cmpi .slt (BitVec.ofNat 32 c.val) 64#32 = if c.val < 64 then 1#1 else 0#1 := by decide +kernel
  rw [show IntOp.cmpi .slt (BitVec.ofNat 32 (i 1).val) 64#32 = if (i 1).val < 64 then 1#1 else 0#1 from hc (i 1)]
  by_cases h : (i 1).val < 64
  · rw [if_pos h, show 128 * (2 * g) + 2 * (i 1).val % 128 = 256 * g + 2 * (i 1).val from by omega]
    rfl
  · rw [if_neg h, show 128 * (2 * g + 1) + 2 * (i 1).val % 128 = 256 * g + 2 * (i 1).val from by omega]
    rfl

/-- The packed codes. -/
theorem XP_apply (y : S256x1792.Idx) :
    XP x y = byteOf (codeAt X (y 0).val (2 * (y 1).val)) (codeAt X (y 0).val (2 * (y 1).val + 1)) := by
  have hy : (y 1).val < 1792 := (y 1).isLt
  unfold XP
  rw [bytes_apply x X hx hfit _ (by omega)]
  show byteOf (codeAt X (y 0).val (256 * ((y 1).val / 128) + 2 * ((y 1).val % 128))) (codeAt X (y 0).val (256 * ((y 1).val / 128) + 2 * ((y 1).val % 128) + 1)) = _
  rw [show 256 * ((y 1).val / 128) + 2 * ((y 1).val % 128) = 2 * (y 1).val from by omega]

/-! ## The block exponents -/

theorem exps_apply (g : ℕ) (hg : g ≤ 27) (i : S256x128.Idx) :
    expsOf (grp x g) i = BitVec.ofInt 32 (expAt X (i 0).val (8 * g + (i 1).val % 8)) := by
  have hi : (i 1).val < 128 := (i 1).isLt
  have hidx : muli (andi lane (word 7#32)) (word 16#32) i = BitVec.ofNat 32 (16 * ((i 1).val % 8)) := by
    have : ∀ c : Fin 128, IntOp.muli (IntOp.andi (BitVec.ofNat 32 c.val) 7#32) 16#32 = BitVec.ofNat 32 (16 * (c.val % 8)) := by decide +kernel
    refine Eq.trans ?_ (this (i 1))
    show IntOp.muli (IntOp.andi (lane i) 7#32) 16#32 = _
    rw [lane_apply]
  unfold expsOf exps
  rw [group_eq, gather_apply _ _ i _ (by omega) hidx]
  unfold expAt
  rw [← kernel_exp _ (hfit _ _ (i 0).isLt (by omega))]
  show IntOp.subi (expo (grp x g) _) 129#32 = _
  rw [expo_apply, grp_max x X hx g hg]
  show IntOp.subi (expoS (amax X (i 0).val ((128 * g + 16 * ((i 1).val % 8)) / 16))) 129#32 = _
  rw [show (128 * g + 16 * ((i 1).val % 8)) / 16 = 8 * g + (i 1).val % 8 from by omega]

omit hx hfit in
theorem place_apply (k : Fin 16) (acc v : IVec S256x128 32) (i : S256x128.Idx) :
    place (BitVec.ofNat 32 k.val) acc v i = if (i 1).val / 8 = k.val then v i else acc i := by
  have hk : ∀ (c : Fin 128) (k : Fin 16), IntOp.cmpi .eq (BitVec.ofNat 32 (c.val / 8)) (BitVec.ofNat 32 k.val) = if c.val / 8 = k.val then 1#1 else 0#1 := by
    decide +kernel
  show Scalar.select (IntOp.cmpi .eq (laneDiv 8#32 i) (BitVec.ofNat 32 k.val)) (v i) (acc i) = _
  rw [show laneDiv 8#32 i = BitVec.ofNat 32 ((i 1).val / 8) from laneDiv_apply 8 (Or.inl rfl) i,
    show IntOp.cmpi .eq (BitVec.ofNat 32 ((i 1).val / 8)) (BitVec.ofNat 32 k.val) = if (i 1).val / 8 = k.val then 1#1 else 0#1 from hk (i 1) k]
  by_cases h : (i 1).val / 8 = k.val
  · rw [if_pos h, if_pos h]; rfl
  · rw [if_neg h, if_neg h]; rfl

/-- Groups `g + k`, `g + k + 1`, … put in their places one after another. -/
def inPlace (x : Vec Ideal S256x3584 .bf16) (g : ℕ) : ℕ → IVec S256x128 32 → ℕ → IVec S256x128 32
  | 0, acc, _ => acc
  | n + 1, acc, k => inPlace x g n (place (BitVec.ofNat 32 k) acc (expsOf (grp x (g + k)))) (k + 1)

theorem inPlace_apply (g : ℕ) : ∀ (n k : ℕ) (acc : IVec S256x128 32) (i : S256x128.Idx), k + n ≤ 16 → g + k + n ≤ 28 →
    ((i 1).val / 8 < k → acc i = BitVec.ofInt 32 (expAt X (i 0).val (8 * g + (i 1).val))) → (i 1).val / 8 < k + n →
    inPlace x g n acc k i = BitVec.ofInt 32 (expAt X (i 0).val (8 * g + (i 1).val))
  | 0, k, acc, i, _, _, h, hi => h (by omega)
  | n + 1, k, acc, i, h1, h2, h, hi => by
    refine inPlace_apply g n (k + 1) _ i (by omega) (by omega) (fun hk => ?_) (by omega)
    rw [show BitVec.ofNat 32 k = BitVec.ofNat 32 (⟨k, by omega⟩ : Fin 16).val from rfl, place_apply]
    by_cases e : (i 1).val / 8 = k
    · rw [if_pos e, exps_apply x X hx hfit _ (by omega), show 8 * (g + k) + (i 1).val % 8 = 8 * g + (i 1).val from by omega]
    · rw [if_neg e]; exact h (by omega)

theorem XElo_apply (i : S256x128.Idx) : XElo x i = (BitVec.ofInt 32 (expAt X (i 0).val (i 1).val)).setWidth 8 := by
  have hi : (i 1).val < 128 := (i 1).isLt
  have h := inPlace_apply x X hx hfit 0 15 1 (expsOf (grp x 0)) i (by omega) (by omega)
    (fun hk => by rw [exps_apply x X hx hfit 0 (by omega), show 8 * 0 + (i 1).val % 8 = 8 * 0 + (i 1).val from by omega]) (by omega)
  rw [show 8 * 0 + (i 1).val = (i 1).val from by omega] at h
  rw [← h]
  rfl

theorem XEhi_apply (i : S256x96.Idx) : XEhi x i = (BitVec.ofInt 32 (expAt X (i 0).val (128 + (i 1).val))).setWidth 8 := by
  have hi : (i 1).val < 96 := (i 1).isLt
  let j : S256x128.Idx := at128 (i 0).val (i 0).isLt (i 1).val (by omega)
  have h := inPlace_apply x X hx hfit 16 11 1 (expsOf (grp x 16)) j (by omega) (by omega)
    (fun hk => by
      have hj : (j 1).val / 8 < 1 := hk
      rw [exps_apply x X hx hfit 16 (by omega), show 8 * 16 + (j 1).val % 8 = 8 * 16 + (j 1).val from by omega])
    (by show (i 1).val / 8 < 12; omega)
  have h' : inPlace x 16 11 (expsOf (grp x 16)) 1 j = BitVec.ofInt 32 (expAt X (i 0).val (128 + (i 1).val)) := h
  rw [← h']
  unfold XEhi expsHi
  exact congrArg (BitVec.setWidth 8) (slice_hi _ i j rfl rfl)

/-- The block exponents. -/
theorem XE_apply (y : S256x224.Idx) : XE x y = (BitVec.ofInt 32 (expAt X (y 0).val (y 1).val)).setWidth 8 := by
  have hy : (y 1).val < 224 := (y 1).isLt
  unfold XE
  by_cases h : (y 1).val < 128
  · rw [dif_pos h, XElo_apply x X hx hfit]; rfl
  · rw [dif_neg h, XEhi_apply x X hx hfit]
    show (BitVec.ofInt 32 (expAt X (y 0).val (128 + ((y 1).val - 128)))).setWidth 8 = _
    rw [show 128 + ((y 1).val - 128) = (y 1).val from by omega]

end Cert.KernelIdeal.Hand

end
-- ==== Proof.KernelW.lean ====
/-
  The kernel's decoded weights and its products over the extended reals.
-/
module

public import proofs.«01_k».proof.Proof.Lanes
public import proofs.«01_k».proof.Proof.Prods
public import proofs.«01_k».proof.Proof.Quantised
public import Idealize.ShloMosaic.Lib.BitcastFour
public import Idealize.ShloMosaic.Lib.Pointwise.Contract

@[expose] public section

set_option maxRecDepth 16384

noncomputable section

namespace Cert.KernelIdeal.Hand

open Idealize.ShloMosaic Idealize.ShloMosaic.TcCoe
open Cert.KernelIdeal Cert.KernelIdeal.Gen Cert.Scalars

/-! ## The bytes of a word -/

/-- The word four rows of one lane share. -/
def wordOf (i : S256x128.Idx) : S64x128.Idx :=
  ValueIdx.ix2 (⟨(i 0).val / 4, by have h : (i 0).val < 256 := (i 0).isLt; omega⟩ : Fin 64) (⟨(i 1).val, (i 1).isLt⟩ : Fin 128)

theorem words_byte (w : Vec Ideal S256x128 .i8) (i : S256x128.Idx) :
    (words w (wordOf i)).extractLsb' (8 * ((i 0).val % 4)) 8 = w i := by
  have h0 : (i 0).val < 256 := (i 0).isLt
  apply BitVec.eq_of_getLsbD_eq
  intro b hb
  rw [BitVec.getLsbD_extractLsb']
  have e := bitcast_8_32_getLsbD_ix2 (R := 256) (r := 64) (n := 128) w bitcasts_S256x128_w8_S64x128_w32
    ⟨(i 0).val / 4, by omega⟩ ⟨(i 1).val, (i 1).isLt⟩ (8 * ((i 0).val % 4) + b) (by omega) ⟨(i 0).val, h0⟩
    (by show (i 0).val = 4 * ((i 0).val / 4) + (8 * ((i 0).val % 4) + b) / 8; omega)
  have e' : (words w (wordOf i)).getLsbD (8 * ((i 0).val % 4) + b) = (w i).getLsbD b := by
    refine (show _ = _ from e).trans ?_
    rw [show (8 * ((i 0).val % 4) + b) % 8 = b from by omega]
    congr 2
    funext a
    match a with
    | ⟨0, _⟩ => rfl
    | ⟨1, _⟩ => rfl
  rw [e']
  simp [hb]

theorem byte_words (q : IVec S64x128 32) (i : S256x128.Idx) :
    bitcast S256x128 8 q bitcasts_S64x128_w32_S256x128_w8 i = (q (wordOf i)).extractLsb' (8 * ((i 0).val % 4)) 8 := by
  have h0 : (i 0).val < 256 := (i 0).isLt
  apply BitVec.eq_of_getLsbD_eq
  intro b hb
  rw [BitVec.getLsbD_extractLsb', bitcast_getLsbD q bitcasts_S64x128_w32_S256x128_w8 i b hb (by decide)]
  have hrow : S256x128.row i = (i 0).val := rfl
  have hidx : ∀ p hp, p = (i 0).val / 4 → bitcasts_S64x128_w32_S256x128_w8.srcIdx i p hp = wordOf i := by
    intro p hp e
    funext c
    match c with
    | ⟨0, _⟩ => exact Fin.ext ((Shape.Bitcasts.srcIdx_row _ _ _ _ ⟨0, Nat.zero_lt_two⟩ rfl).trans e)
    | ⟨1, _⟩ => exact Fin.ext (Shape.Bitcasts.srcIdx_other _ _ _ _ ⟨1, Nat.one_lt_two⟩ (by show ¬ 1 + 2 = 2; omega))
  rw [hidx _ _ (by rw [hrow]; omega), hrow]
  rw [show ((i 0).val * 8 + b) % 32 = 8 * ((i 0).val % 4) + b from by omega]
  simp [hb]

theorem low_word (v : BitVec 32) (k : Fin 4) :
    (IntOp.ori (IntOp.andi v 117901063#32) (IntOp.andi (IntOp.shli .vector v 4#32) 2155905152#32)).extractLsb' (8 * k.val) 8
      = lowByte (v.extractLsb' (8 * k.val) 8) := by
  rw [show IntOp.shli .vector v 4#32 = v <<< 4 from rfl]
  unfold lowByte IntOp.ori IntOp.andi
  apply BitVec.eq_of_getLsbD_eq
  intro b hb
  fin_cases k <;> interval_cases b <;> simp [BitVec.getLsbD_extractLsb']

theorem high_word (v : BitVec 32) (k : Fin 4) :
    (IntOp.ori (IntOp.andi (IntOp.shrui .vector v 4#32) 117901063#32) (IntOp.andi v 2155905152#32)).extractLsb' (8 * k.val) 8
      = highByte (v.extractLsb' (8 * k.val) 8) := by
  rw [show IntOp.shrui .vector v 4#32 = v >>> 4 from rfl]
  unfold highByte IntOp.ori IntOp.andi
  apply BitVec.eq_of_getLsbD_eq
  intro b hb
  fin_cases k <;> interval_cases b <;> simp [BitVec.getLsbD_extractLsb']

theorem low_bytes (w : Vec Ideal S256x128 .i8) (i : S256x128.Idx) :
    bitcast S256x128 8 (lowBits (words w)) bitcasts_S64x128_w32_S256x128_w8 i = lowByte (w i) := by
  rw [byte_words, ← words_byte w i]
  generalize words w = v
  exact low_word (v (wordOf i)) ⟨(i 0).val % 4, Nat.mod_lt _ (by decide)⟩

theorem high_bytes (w : Vec Ideal S256x128 .i8) (i : S256x128.Idx) :
    bitcast S256x128 8 (highBits (words w)) bitcasts_S64x128_w32_S256x128_w8 i = highByte (w i) := by
  rw [byte_words, ← words_byte w i]
  generalize words w = v
  exact high_word (v (wordOf i)) ⟨(i 0).val % 4, Nat.mod_lt _ (by decide)⟩

/-! ## The scales -/

theorem scale_apply (e : Vec Ideal S256x224 .i8) (y : S256x224.Idx) : scale e y = powerS (scaleField (e y)) := rfl

/-- Row `r`, scale `b`. -/
def at224 (r : ℕ) (hr : r < 256) (b : ℕ) (hb : b < 224) : S256x224.Idx := fun a => match a with
  | ⟨0, _⟩ => ⟨r, hr⟩
  | ⟨1, _⟩ => ⟨b, hb⟩

theorem cut_lo (s : FVec Ideal S256x224 .bf16) (j : S1x256x128.Idx) :
    shapeCast S1x256x128 (extractStridedSlice S256x128 ![0, 0] s slices_S256x224_o0_0_S256x128) shapeCasts_S256x128_S1x256x128 j
      = s (at224 (j 1).val (j 1).isLt (j 2).val (by have h : (j 2).val < 128 := (j 2).isLt; omega)) := by
  have h0 : (j 0).val < 1 := (j 0).isLt
  refine (shapeCast_apply _ _ j (at128 (j 1).val (j 1).isLt (j 2).val (j 2).isLt) ?_).trans ?_
  · rw [Shape.rowMajor_val_three, Shape.rowMajor_val_two]
    show (j 1).val * 128 + (j 2).val = ((j 0).val * 256 + (j 1).val) * 128 + (j 2).val
    omega
  · refine extractStridedSlice_apply ![0, 0] s slices_S256x224_o0_0_S256x128 _ _ fun a => ?_
    match a with
    | ⟨0, _⟩ => exact (Nat.zero_add _).symm
    | ⟨1, _⟩ => exact (Nat.zero_add _).symm

theorem cut_hi (s : FVec Ideal S256x224 .bf16) (j : S1x256x96.Idx) :
    shapeCast S1x256x96 (extractStridedSlice S256x96 ![0, 128] s slices_S256x224_o0_128_S256x96) shapeCasts_S256x96_S1x256x96 j
      = s (at224 (j 1).val (j 1).isLt (128 + (j 2).val) (by have h : (j 2).val < 96 := (j 2).isLt; omega)) := by
  have h0 : (j 0).val < 1 := (j 0).isLt
  refine (shapeCast_apply _ _ j (at96 (j 1).val (j 1).isLt (j 2).val (j 2).isLt) ?_).trans ?_
  · rw [Shape.rowMajor_val_three, Shape.rowMajor_val_two]
    show (j 1).val * 96 + (j 2).val = ((j 0).val * 256 + (j 1).val) * 96 + (j 2).val
    omega
  · refine extractStridedSlice_apply ![0, 128] s slices_S256x224_o0_128_S256x96 _ _ fun a => ?_
    match a with
    | ⟨0, _⟩ => exact (Nat.zero_add _).symm
    | ⟨1, _⟩ => rfl

/-- The scale a lane of group `g` gathers. -/
theorem srow_apply (e : Vec Ideal S256x224 .i8) (g : ℕ) (hg : g ≤ 27) (i : S256x128.Idx) (c : ℕ) (hc : c < 128) (h : c = (i 1).val / 16 + 8 * (g % 16)) :
    srow e g (at1 (atLane c hc i))
      = powerS (scaleField (e (at224 (i 0).val (i 0).isLt (8 * g + (i 1).val / 16) (by have h : (i 1).val < 128 := (i 1).isLt; omega)))) := by
  have hi : (i 1).val < 128 := (i 1).isLt
  have key : ∀ (b b' : ℕ) (hb : b < 224) (hb' : b' < 224), b = b' →
      scale e (at224 (i 0).val (i 0).isLt b hb) = powerS (scaleField (e (at224 (i 0).val (i 0).isLt b' hb'))) := by
    intro b b' hb hb' ebb
    subst ebb
    exact scale_apply e _
  unfold srow
  by_cases h16 : g < 16
  · rw [if_pos h16]
    refine (cut_lo (scale e) _).trans (key c _ _ _ (by omega))
  · rw [if_neg h16]
    have hl : ((at1 (atLane c hc i)) 2).val < 96 := by show c < 96; omega
    rw [dif_pos hl]
    refine (cut_hi (scale e) _).trans (key (128 + c) _ _ _ (by omega))

/-! ## The weights -/

theorem decode_apply (q : IVec S64x128 32) (k : ℕ) (hk : k ≤ 120) (s : Vec Ideal S1x256x128 .bf16) (i : S256x128.Idx) :
    decode q (BitVec.ofNat 32 k) s i = Ideal.ofBits .fp8e4m3 (bitcast S256x128 8 q bitcasts_S64x128_w32_S256x128_w8 i)
      * s (at1 (atLane ((i 1).val / 16 + k) (by have h : (i 1).val < 128 := (i 1).isLt; omega) i)) := by
  have hi : (i 1).val < 128 := (i 1).isLt
  have hg := gather16_apply (F := Ideal) (shapeCast S256x128 s shapeCasts_S1x256x128_S256x128) (addi (laneDiv 16#32) (word (BitVec.ofNat 32 k))) i ((i 1).val / 16 + k)
    (by omega) (block_lane i k hk)
  rw [lead_apply] at hg
  exact congrArg (fun z : EReal => (Ideal.ofBits .fp8e4m3 (bitcast S256x128 8 q bitcasts_S64x128_w32_S256x128_w8 i) : EReal) * z) hg

variable (w : Vec Ideal S256x3584 .i8) (e : Vec Ideal S256x224 .i8) (W E : ℕ → ℕ → BitVec 8)
  (hw : ∀ y : S256x3584.Idx, w y = W (y 0).val (y 1).val) (he : ∀ y : S256x224.Idx, e y = E (y 0).val (y 1).val)
  (hE : ∀ r b, (E r b).toInt ≤ 118)

include hw in
theorem wgrp_apply (g : ℕ) (hg : g ≤ 27) (i : S256x128.Idx) : wgrp w g i = W (i 0).val (128 * g + (i 1).val) := by
  unfold wgrp
  rw [hw]
  show W (i 0).val (128 * min g 27 + (i 1).val) = _
  rw [Nat.min_eq_left hg]

include hw he hE

theorem weight_apply (nib : BitVec 8 → BitVec 32) (byte : BitVec 8 → BitVec 8) (q : IVec S64x128 32) (g : ℕ) (hg : g ≤ 27)
    (hq : ∀ i, bitcast S256x128 8 q bitcasts_S64x128_w32_S256x128_w8 i = byte (wgrp w g i))
    (hf : ∀ b, Ideal.ofBits .fp8e4m3 (byte b) = ((((nib b).toInt : ℝ) * (2 : ℝ) ^ (-9 : ℤ) : ℝ) : EReal)) (i : S256x128.Idx) :
    decode q (BitVec.ofNat 32 (8 * (g % 16))) (srow e g) i = wAt nib W E (i 0).val (128 * g + (i 1).val) := by
  have hi : (i 1).val < 128 := (i 1).isLt
  rw [decode_apply _ _ (by omega), hq, hf, srow_apply e g hg i _ _ rfl, he, scale_float _ (hE _ _), weight, wgrp_apply w W hw g hg, rpow_int, ← EReal.coe_mul]
  unfold wAt
  rw [show (128 * g + (i 1).val) / 16 = 8 * g + (i 1).val / 16 from by omega]
  rfl

theorem low_apply (g : ℕ) (hg : g ≤ 27) (i : S256x128.Idx) :
    decode (lowBits (words (wgrp w g))) (BitVec.ofNat 32 (8 * (g % 16))) (srow e g) i = wAt lowNib W E (i 0).val (128 * g + (i 1).val) :=
  weight_apply w e W E hw he hE lowNib lowByte _ g hg (low_bytes _) low_float i

theorem high_apply (g : ℕ) (hg : g ≤ 27) (i : S256x128.Idx) :
    decode (highBits (words (wgrp w g))) (BitVec.ofNat 32 (8 * (g % 16))) (srow e g) i = wAt highNib W E (i 0).val (128 * g + (i 1).val) :=
  weight_apply w e W E hw he hE highNib highByte _ g hg (high_bytes _) high_float i

/-! ## The products -/

omit hw he hE

/-- Row `r`, column `k` of a tile. -/
def inTile (r : Fin 256) (k : Fin 256) : S256x256.Idx := ix2 r k

theorem product_apply (x b : FVec Ideal S256x256 .bf16) (j : S256x256.Idx) :
    matmul dot_S256x256_S256x256_S256x256_1_1_0_0_n_n none x b (constant S256x256 .f32 0x00000000#32) j
      = ∑ k : Fin 256, x (inTile (j 0) k) * b (inTile (j 1) k) := by
  simp only [pointwise]
  exact (congrArg (fun z : EReal => z + _) f32_zero).trans (zero_add _)

theorem tile_apply (acc : FVec Ideal S256x256 .f32) (x : Vec Ideal S256x256 .bf16) (a b : FVec Ideal S256x128 .bf16) (D : ℕ → EReal) (j : S256x256.Idx)
    (ha : ∀ i : S256x128.Idx, (i 0).val = (j 1).val → a i = D (i 1).val) (hb : ∀ i : S256x128.Idx, (i 0).val = (j 1).val → b i = D (128 + (i 1).val)) :
    tile acc x a b j = acc j + ∑ k : Fin 256, x (inTile (j 0) k) * D k.val := by
  have hc : ∀ k : Fin 256, concatenate S256x256 1 [⟨S256x128, a⟩, ⟨S256x128, b⟩] concatenates_S256x128_S256x128_S256x256_d1 (inTile (j 1) k) = D k.val := by
    intro k
    have hk := k.isLt
    by_cases h : k.val < 128
    · refine (concatenate_pair_apply_left 1 a b _ (inTile (j 1) k) rfl (at128 (j 1).val (j 1).isLt k.val h) fun c => ?_).trans (ha _ rfl)
      match c with
      | ⟨0, _⟩ => rfl
      | ⟨1, _⟩ => rfl
    · refine (concatenate_pair_apply_right 1 a b _ (inTile (j 1) k) rfl rfl (at128 (j 1).val (j 1).isLt (k.val - 128) (by omega)) (fun c hc => ?_) ?_).trans
        ((hb _ rfl).trans (congrArg D ?_))
      · match c, hc with
        | ⟨0, _⟩, _ => rfl
        | ⟨1, _⟩, hc => exact absurd rfl hc
      · show k.val - 128 + 128 = k.val
        omega
      · show 128 + (k.val - 128) = k.val
        omega
  unfold tile
  show acc j + matmul dot_S256x256_S256x256_S256x256_1_1_0_0_n_n none x _ (constant S256x256 .f32 0x00000000#32) j = _
  rw [product_apply]
  simp only [hc]

/-- The sum of the tiles is the sum over their columns. -/
theorem tiles_apply (d : ℕ → FVec Ideal S256x128 .bf16) (xo : Vec Ideal S256x3584 .bf16) (XQ D : ℕ → ℕ → EReal)
    (hd : ∀ g, g ≤ 27 → ∀ i : S256x128.Idx, d g i = D (i 0).val (128 * g + (i 1).val)) (hxo : ∀ y : S256x3584.Idx, xo y = XQ (y 0).val (y 1).val)
    (n : ℕ) (hn : n ≤ 14) (j : S256x256.Idx) :
    tiles d xo n j = ∑ k ∈ Finset.range (256 * n), XQ (j 0).val k * D (j 1).val k := by
  induction n with
  | zero =>
    show Ideal.ofBits .f32 0x00000000#32 = _
    rw [f32_zero, Nat.mul_zero, Finset.range_zero, Finset.sum_empty]
  | succ n ih =>
    show tile (tiles d xo n) (xtile xo n) (d (2 * n)) (d (2 * n + 1)) j = _
    rw [tile_apply (tiles d xo n) (xtile xo n) _ _ (fun k => D (j 1).val (256 * n + k)) j
      (fun i hi => by rw [hd _ (by omega), hi]; congr 1; omega) (fun i hi => by rw [hd _ (by omega), hi]; congr 1; omega), ih (by omega),
      show 256 * (n + 1) = 256 * n + 256 from by omega, Finset.sum_range_add, Finset.sum_range (n := 256)]
    refine congrArg (_ + ·) (Finset.sum_congr rfl fun k _ => ?_)
    have hx : xtile xo n (inTile (j 0) k) = XQ (j 0).val (256 * n + k.val) := by
      unfold xtile
      rw [hxo]
      show XQ (j 0).val (256 * min n 13 + k.val) = _
      rw [Nat.min_eq_left (by omega)]
    rw [hx]

variable (xo : Vec Ideal S256x3584 .bf16) (XQ : ℕ → ℕ → EReal) (hxo : ∀ y : S256x3584.Idx, xo y = XQ (y 0).val (y 1).val)

include hw he hE hxo

theorem YLO_apply (j : S256x256.Idx) : YLO w e xo j = dotAt XQ (wAt lowNib W E) (j 0).val (j 1).val :=
  tiles_apply _ xo XQ (wAt lowNib W E) (fun g hg i => low_apply w e W E hw he hE g hg i) hxo 14 le_rfl j

theorem YHI_apply (j : S256x256.Idx) : YHI w e xo j = dotAt XQ (wAt highNib W E) (j 0).val (j 1).val :=
  tiles_apply _ xo XQ (wAt highNib W E) (fun g hg i => high_apply w e W E hw he hE g hg i) hxo 14 le_rfl j

end Cert.KernelIdeal.Hand

end
-- ==== Proof.RefValues.lean ====
/-
  The reference's values over the extended reals, each read at an index.
-/
module

public import proofs.«01_k».proof.Proof.Quantised
public import proofs.«01_k».proof.Proof.Gen.ReferenceIdeal.Read
public import Idealize.ShloMosaic.Lib.Pointwise.Reduce

@[expose] public section

set_option maxRecDepth 16384

noncomputable section

namespace Cert.ReferenceIdeal.Read

open Cert.ReferenceIdeal Cert.ReferenceIdeal.Gen Idealize.ShloMosaic Idealize.ShloMosaic.TcCoe Cert.Scalars

/-- A position in the blocks of sixteen. -/
def inBlock (i : S1x256x224.Idx) (q : Fin 16) : S1x256x224x16.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨q.val, q.isLt⟩

/-- A maximum over the last axis, from negative infinity. -/
theorem last_max (v : FVec Ideal S1x256x224x16 .f32) (c : FVec Ideal S_ .f32) (hc : ∀ i, c i = ⊥)
    (h : S1x256x224x16.ReducesTo [3] S1x256x224) (hu : 0 < S_.numel) (j : S1x256x224.Idx) :
    Host.reduce FloatOps.maximumf v c h hu j = Finset.univ.sup fun q : Fin 16 => v (inBlock j q) := by
  simp only [pointwise]
  rw [hc]
  unfold Finset.sup
  have e : ∀ k : Fin 16, inBlock j k = ix4 (0 : Fin 1) (j 1) (j 2) k := fun k => funext fun a => by
    match a with
    | ⟨0, _⟩ => exact Fin.ext (Nat.lt_one_iff.mp (j 0).isLt)
    | ⟨1, _⟩ => rfl
    | ⟨2, _⟩ => rfl
    | ⟨3, _⟩ => rfl
  simp only [e]
  rfl

variable (x0 : (⟨S1x256x3584, .bf16⟩ : BufTy).Contents (Elt Ideal)) (X : ℕ → ℕ → EReal)
  (hx : ∀ i : S1x256x3584.Idx, x0 i = X (i 1).val (i 2).val)

include hx

theorem v1_at (i : S1x256x224x16.Idx) : val_main_v1 (F := Ideal) x0 i = X (i 1).val (16 * (i 2).val + (i 3).val) := by
  have h0 : (i 0).val < 1 := (i 0).isLt
  have h1 : (i 1).val < 256 := (i 1).isLt
  have h2 : (i 2).val < 224 := (i 2).isLt
  have h3 : (i 3).val < 16 := (i 3).isLt
  rw [val_main_v1_apply, val_main_v0_apply]
  show x0 (idx_main_v1 i) = _
  rw [hx]
  show X (((((i 0).val * 256 + (i 1).val) * 224 + (i 2).val) * 16 + (i 3).val) / 3584 % 256)
    (((((i 0).val * 256 + (i 1).val) * 224 + (i 2).val) * 16 + (i 3).val) % 3584) = _
  congr 1 <;> omega

theorem v3_at (i : S1x256x224.Idx) : val_main_v3 (F := Ideal) x0 i = amax X (i 1).val (i 2).val := by
  unfold val_main_v3
  refine (last_max _ _ (fun j => (val_main_cst_apply j).trans f32_bot) _ _ _).trans ?_
  unfold amax
  congr 1; funext q
  rw [val_main_v2_apply, v1_at x0 X hx]
  rfl

theorem v13_at (i : S1x256x224.Idx) : val_main_v13 (F := Ideal) x0 i = refE (amax X (i 1).val (i 2).val) := by
  rw [val_main_v13_apply, val_main_v9_apply, val_main_v8_apply, val_main_cst_1_apply, val_main_call0_v1_apply, val_main_call0_v0_apply,
    val_main_cst_3_apply, val_main_v12_apply, val_main_v10_apply, val_main_v7_apply, val_main_v4_apply, val_main_v6_apply,
    val_main_v5_apply, val_main_cst_0_apply, val_main_v11_apply, val_main_cst_2_apply, v3_at x0 X hx]
  generalize amax X (i 1).val (i 2).val = a
  show Scalar.select (Ideal.cmp .oeq a (Ideal.ofBits .f32 0x00000000#32)) (Ideal.ofBits .f32 0x00000000#32)
    (Ideal.liftRound Int.floor (Ideal.div (Ideal.log a) (Ideal.log (Ideal.ofBits .f32 0x40000000#32))) + Ideal.ofBits .f32 0x3F800000#32) = _
  rw [f32_zero, f32_two, f32_one]
  rfl

variable (hfit : ∀ r b, r < 256 → b < 224 → Fits (amax X r b))
include hfit

theorem v16_at (i : S1x256x224.Idx) : val_main_v16 (F := Ideal) x0 i = BitVec.ofInt 32 (expAt X (i 1).val (i 2).val) := by
  rw [val_main_v16_apply, val_main_v15_apply, val_main_v14_apply, val_main_cst_4_apply, v13_at x0 X hx]
  refine Eq.trans ?_ (ref_exp _ (hfit _ _ (i 1).isLt (i 2).isLt))
  rw [← f32_three]
  rfl

/-- The block exponents. -/
theorem v28_at (i : S1x256x224.Idx) : val_main_v28 (F := Ideal) x0 i = (BitVec.ofInt 32 (expAt X (i 1).val (i 2).val)).setWidth 8 := by
  rw [val_main_v28_apply, v16_at x0 X hx hfit]

theorem v25_at (i : S1x256x224x16.Idx) :
    val_main_v25 (F := Ideal) x0 i = (((codeAt X (i 1).val (16 * (i 2).val + (i 3).val) : ℤ) : ℝ) : EReal) := by
  have h3 : (i 3).val < 16 := (i 3).isLt
  have hb : (16 * (i 2).val + (i 3).val) / 16 = (i 2).val := by omega
  have hle := le_amax X (i 1).val (16 * (i 2).val + (i 3).val)
  rw [hb] at hle
  rw [val_main_v25_apply, val_main_call2_v4_apply, val_main_call2_v3_apply, val_main_c_7_apply, val_main_call2_v2_apply,
    val_main_call2_v1_apply, val_main_call2_v0_apply, val_main_c_apply, val_main_v24_apply, val_main_v23_apply, v1_at x0 X hx,
    val_main_v22_apply, val_main_v21_apply, val_main_v20_apply, val_main_v17_apply, val_main_cst_5_apply, val_main_v19_apply,
    val_main_v18_apply, val_main_cst_6_apply, v13_at x0 X hx]
  unfold codeAt
  rw [hb]
  refine Eq.trans ?_ (ref_code _ _ (hfit _ _ (i 1).isLt (i 2).isLt) hle)
  rw [← f32_three, ← f32_two]
  rfl

theorem v27_at (i : S1x256x3584.Idx) : val_main_v27 (F := Ideal) x0 i = BitVec.ofInt 32 (codeAt X (i 1).val (i 2).val) := by
  have h0 : (i 0).val < 1 := (i 0).isLt
  have h1 : (i 1).val < 256 := (i 1).isLt
  have h2 : (i 2).val < 3584 := (i 2).isLt
  rw [val_main_v27_apply, val_main_v26_apply, v25_at x0 X hx hfit]
  show Ideal.fptosi 32 (((codeAt X ((((i 0).val * 256 + (i 1).val) * 3584 + (i 2).val) / 3584 % 256)
    (16 * ((((i 0).val * 256 + (i 1).val) * 3584 + (i 2).val) / 16 % 224) + (((i 0).val * 256 + (i 1).val) * 3584 + (i 2).val) % 16) : ℤ) : ℝ) : EReal) = _
  rw [show (((i 0).val * 256 + (i 1).val) * 3584 + (i 2).val) / 3584 % 256 = (i 1).val from by omega,
    show 16 * ((((i 0).val * 256 + (i 1).val) * 3584 + (i 2).val) / 16 % 224) + (((i 0).val * 256 + (i 1).val) * 3584 + (i 2).val) % 16 = (i 2).val from by omega]
  unfold codeAt
  rw [codeOf_word]

theorem v36_at (i : S1x256x3584.Idx) : val_main_v36 (F := Ideal) x0 i = bitsOf (BitVec.ofInt 32 (codeAt X (i 1).val (i 2).val)) := by
  rw [val_main_v36_apply, val_main_v29_apply, val_main_v35_apply, val_main_v34_apply, val_main_v33_apply, val_main_c_9_apply, val_main_v32_apply,
    val_main_v31_apply, val_main_v30_apply, val_main_c_8_apply, v27_at x0 X hx hfit]
  exact bitsOf_ref _

/-- The packed codes. -/
theorem v42_at (i : S1x256x1792.Idx) :
    val_main_v42 (F := Ideal) x0 i = byteOf (codeAt X (i 1).val (2 * (i 2).val)) (codeAt X (i 1).val (2 * (i 2).val + 1)) := by
  have e37 : val_main_v37 (F := Ideal) x0 i = bitsOf (BitVec.ofInt 32 (codeAt X (i 1).val (2 * (i 2).val))) := by
    refine (v36_at x0 X hx hfit _).trans ?_
    show bitsOf (BitVec.ofInt 32 (codeAt X (0 + 1 * (i 1).val) (0 + 2 * (i 2).val))) = _
    rw [Nat.zero_add, Nat.zero_add, Nat.one_mul]
  have e38 : val_main_v38 (F := Ideal) x0 i = bitsOf (BitVec.ofInt 32 (codeAt X (i 1).val (2 * (i 2).val + 1))) := by
    refine (v36_at x0 X hx hfit _).trans ?_
    show bitsOf (BitVec.ofInt 32 (codeAt X (0 + 1 * (i 1).val) (1 + 2 * (i 2).val))) = _
    rw [Nat.zero_add, Nat.one_mul, Nat.add_comm 1]
  rw [val_main_v42_apply, val_main_v41_apply, val_main_v40_apply, val_main_v39_apply, val_main_c_10_apply, e37, e38, shl_host]
  rfl

theorem v44_at (i : S1x256x3584.Idx) : val_main_v44 (F := Ideal) x0 i = (((codeAt X (i 1).val (i 2).val : ℤ) : ℝ) : EReal) := by
  rw [val_main_v44_apply, val_main_v43_apply, v27_at x0 X hx hfit]
  show (((BitVec.ofInt 32 (codeAt X (i 1).val (i 2).val)).toInt : ℝ) : EReal) = _
  rw [show (BitVec.ofInt 32 (codeAt X (i 1).val (i 2).val)).toInt = codeAt X (i 1).val (i 2).val from ?_]
  have := codeInt_bounds ((X (i 1).val (i 2).val).toReal * (2 : ℝ) ^ (129 - (fieldOf (amax X (i 1).val ((i 2).val / 16)) : ℤ)))
  have hb : -7 ≤ codeAt X (i 1).val (i 2).val ∧ codeAt X (i 1).val (i 2).val ≤ 7 := this
  rw [BitVec.toInt_ofInt]
  exact Int.bmod_eq_of_le (by norm_num; omega) (by norm_num; omega)

theorem v50_at (i : S1x256x224.Idx) : val_main_v50 (F := Ideal) x0 i = (((2 : ℝ) ^ expAt X (i 1).val (i 2).val : ℝ) : EReal) := by
  rw [val_main_v50_apply, val_main_v49_apply, val_main_v46_apply, val_main_cst_11_apply, val_main_v48_apply, val_main_v47_apply, v28_at x0 X hx hfit]
  refine Eq.trans ?_ (ref_power _ (hfit _ _ (i 1).isLt (i 2).isLt))
  rw [← f32_two]
  rfl

/-- The input, quantised. -/
theorem v54_at (i : S1x256x3584.Idx) : val_main_v54 (F := Ideal) x0 i = xQuant X (i 1).val (i 2).val := by
  have h0 : (i 0).val < 1 := (i 0).isLt
  have h1 : (i 1).val < 256 := (i 1).isLt
  have h2 : (i 2).val < 3584 := (i 2).isLt
  rw [val_main_v54_apply, val_main_v53_apply, val_main_v45_apply, val_main_v52_apply, val_main_v51_apply, v44_at x0 X hx hfit, v50_at x0 X hx hfit]
  generalize hr : ((idx_main_v45 (idx_main_v54 i)) 1).val = r1
  generalize hc : ((idx_main_v45 (idx_main_v54 i)) 2).val = c1
  generalize hr' : ((idx_main_v51 (idx_main_v52 (idx_main_v54 i))) 1).val = r2
  generalize hc' : ((idx_main_v51 (idx_main_v52 (idx_main_v54 i))) 2).val = c2
  have er' : r2 = (i 1).val := by
    rw [← hr']
    show (((i 0).val * 256 + (i 1).val) * 3584 + (i 2).val) / 3584 % 256 = _
    omega
  have ec' : c2 = (i 2).val / 16 := by
    rw [← hc']
    show (((i 0).val * 256 + (i 1).val) * 3584 + (i 2).val) / 16 % 224 = _
    omega
  have er : r1 = (i 1).val := by
    rw [← hr]
    show (((0 * 256 + (((i 0).val * 256 + (i 1).val) * 3584 + (i 2).val) / 3584 % 256) * 224 + (((i 0).val * 256 + (i 1).val) * 3584 + (i 2).val) / 16 % 224) * 16
      + (((i 0).val * 256 + (i 1).val) * 3584 + (i 2).val) % 16) / 3584 % 256 = _
    omega
  have ec : c1 = (i 2).val := by
    rw [← hc]
    show (((0 * 256 + (((i 0).val * 256 + (i 1).val) * 3584 + (i 2).val) / 3584 % 256) * 224 + (((i 0).val * 256 + (i 1).val) * 3584 + (i 2).val) / 16 % 224) * 16
      + (((i 0).val * 256 + (i 1).val) * 3584 + (i 2).val) % 16) % 3584 = _
    omega
  rw [er, ec, er', ec']
  unfold xQuant
  rw [EReal.coe_mul]
  rfl

/-! ## The weights -/

omit hx hfit

variable (x1 : (⟨S9472x3584, .i8⟩ : BufTy).Contents (Elt Ideal)) (x2 : (⟨S18944x224, .i8⟩ : BufTy).Contents (Elt Ideal))
  (W E : ℕ → ℕ → BitVec 8) (hw : ∀ i : S9472x3584.Idx, x1 i = W (i 0).val (i 1).val) (he : ∀ i : S18944x224.Idx, x2 i = E (i 0).val (i 1).val)

include hw in
theorem v69_at (i : S9472x3584.Idx) : val_main_v69 (F := Ideal) x1 i = (((lowNib (W (i 0).val (i 1).val)).toInt : ℝ) : EReal) := by
  rw [val_main_v69_apply, val_main_v68_apply, val_main_v66_apply, val_main_v59_apply, val_main_v58_apply, val_main_c_13_apply, val_main_v65_apply,
    val_main_v64_apply, val_main_c_16_apply, val_main_v63_apply, val_main_v62_apply, val_main_c_15_apply, val_main_v61_apply, val_main_v60_apply,
    val_main_c_14_apply, val_main_v57_apply, val_main_v56_apply, val_main_c_12_apply, val_main_v55_apply, hw]
  rfl

include hw in
theorem v93_at (i : S9472x3584.Idx) : val_main_v93 (F := Ideal) x1 i = (((highNib (W (i 0).val (i 1).val)).toInt : ℝ) : EReal) := by
  rw [val_main_v93_apply, val_main_v92_apply, val_main_v90_apply, val_main_v83_apply, val_main_v82_apply, val_main_c_19_apply, val_main_v89_apply,
    val_main_v88_apply, val_main_c_22_apply, val_main_v87_apply, val_main_v86_apply, val_main_c_21_apply, val_main_v85_apply, val_main_v84_apply,
    val_main_c_20_apply, val_main_v81_apply, val_main_v80_apply, val_main_c_18_apply, val_main_v55_apply, hw]
  rfl

include he in
theorem v75_at (i : S9472x224.Idx) : val_main_v75 (F := Ideal) x2 i = (((2 : ℝ) ^ (E (i 0).val (i 1).val).toInt : ℝ) : EReal) := by
  rw [val_main_v75_apply, val_main_v74_apply, val_main_v71_apply, val_main_cst_17_apply, val_main_v73_apply, val_main_v72_apply, val_main_v67_apply, he]
  refine Eq.trans ?_ (rpow_int _)
  rw [← f32_two, ← BitVec.toInt_signExtend_of_le (x := E (i 0).val (i 1).val) (v := 32) (by decide)]
  rfl

include he in
theorem v99_at (i : S9472x224.Idx) : val_main_v99 (F := Ideal) x2 i = (((2 : ℝ) ^ (E (9472 + (i 0).val) (i 1).val).toInt : ℝ) : EReal) := by
  rw [val_main_v99_apply, val_main_v98_apply, val_main_v95_apply, val_main_cst_23_apply, val_main_v97_apply, val_main_v96_apply, val_main_v91_apply, he]
  refine Eq.trans ?_ (rpow_int _)
  rw [← f32_two, ← BitVec.toInt_signExtend_of_le (x := E (9472 + (i 0).val) (i 1).val) (v := 32) (by decide)]
  rfl

include hw he

/-- The weights from the low halves. -/
theorem v79_at (i : S9472x3584.Idx) : val_main_v79 (F := Ideal) x1 x2 i = wLow W E (i 0).val (i 1).val := by
  have h0 : (i 0).val < 9472 := (i 0).isLt
  have h1 : (i 1).val < 3584 := (i 1).isLt
  rw [val_main_v79_apply, val_main_v78_apply, val_main_v70_apply, val_main_v77_apply, val_main_v76_apply, v69_at x1 W hw, v75_at x2 E he]
  generalize hr : ((idx_main_v70 (idx_main_v79 i)) 0).val = r1
  generalize hc : ((idx_main_v70 (idx_main_v79 i)) 1).val = c1
  generalize hr' : ((idx_main_v76 (idx_main_v77 (idx_main_v79 i))) 0).val = r2
  generalize hc' : ((idx_main_v76 (idx_main_v77 (idx_main_v79 i))) 1).val = c2
  have er' : r2 = (i 0).val := by
    rw [← hr']
    show ((i 0).val * 3584 + (i 1).val) / 3584 = _
    omega
  have ec' : c2 = (i 1).val / 16 := by
    rw [← hc']
    show ((i 0).val * 3584 + (i 1).val) / 16 % 224 = _
    omega
  have er : r1 = (i 0).val := by
    rw [← hr]
    show ((((i 0).val * 3584 + (i 1).val) / 3584 * 224 + ((i 0).val * 3584 + (i 1).val) / 16 % 224) * 16 + ((i 0).val * 3584 + (i 1).val) % 16) / 3584 = _
    omega
  have ec : c1 = (i 1).val := by
    rw [← hc]
    show ((((i 0).val * 3584 + (i 1).val) / 3584 * 224 + ((i 0).val * 3584 + (i 1).val) / 16 % 224) * 16 + ((i 0).val * 3584 + (i 1).val) % 16) % 3584 = _
    omega
  rw [er, ec, er', ec']
  unfold wLow wAt
  rw [EReal.coe_mul]
  rfl

/-- The weights from the high halves. -/
theorem v103_at (i : S9472x3584.Idx) : val_main_v103 (F := Ideal) x1 x2 i = wHigh W E (i 0).val (i 1).val := by
  have h0 : (i 0).val < 9472 := (i 0).isLt
  have h1 : (i 1).val < 3584 := (i 1).isLt
  rw [val_main_v103_apply, val_main_v102_apply, val_main_v94_apply, val_main_v101_apply, val_main_v100_apply, v93_at x1 W hw, v99_at x2 E he]
  generalize hr : ((idx_main_v94 (idx_main_v103 i)) 0).val = r1
  generalize hc : ((idx_main_v94 (idx_main_v103 i)) 1).val = c1
  generalize hr' : ((idx_main_v100 (idx_main_v101 (idx_main_v103 i))) 0).val = r2
  generalize hc' : ((idx_main_v100 (idx_main_v101 (idx_main_v103 i))) 1).val = c2
  have er' : r2 = (i 0).val := by
    rw [← hr']
    show ((i 0).val * 3584 + (i 1).val) / 3584 = _
    omega
  have ec' : c2 = (i 1).val / 16 := by
    rw [← hc']
    show ((i 0).val * 3584 + (i 1).val) / 16 % 224 = _
    omega
  have er : r1 = (i 0).val := by
    rw [← hr]
    show ((((i 0).val * 3584 + (i 1).val) / 3584 * 224 + ((i 0).val * 3584 + (i 1).val) / 16 % 224) * 16 + ((i 0).val * 3584 + (i 1).val) % 16) / 3584 = _
    omega
  have ec : c1 = (i 1).val := by
    rw [← hc]
    show ((((i 0).val * 3584 + (i 1).val) / 3584 * 224 + ((i 0).val * 3584 + (i 1).val) / 16 % 224) * 16 + ((i 0).val * 3584 + (i 1).val) % 16) % 3584 = _
    omega
  rw [er, ec, er', ec']
  unfold wHigh wAt
  rw [EReal.coe_mul]
  rfl

include hx hfit

theorem v104_at (i : S1x256x9472.Idx) :
    val_main_v104 (F := Ideal) x0 x1 x2 i = dotAt (xQuant X) (wLow W E) (i 1).val (i 2).val := by
  rw [val_main_v104_apply]
  unfold dotAt
  rw [Finset.sum_range]
  refine Finset.sum_congr rfl fun k _ => ?_
  rw [v54_at x0 X hx hfit, v79_at x1 x2 W E hw he]

theorem v105_at (i : S1x256x9472.Idx) :
    val_main_v105 (F := Ideal) x0 x1 x2 i = dotAt (xQuant X) (wHigh W E) (i 1).val (i 2).val := by
  rw [val_main_v105_apply]
  unfold dotAt
  rw [Finset.sum_range]
  refine Finset.sum_congr rfl fun k _ => ?_
  rw [v54_at x0 X hx hfit, v103_at x1 x2 W E hw he]

/-- A column among the 9472 of a half. -/
def inHalf (i : S1x256x18944.Idx) (c : ℕ) (h : c < 9472) : S1x256x9472.Idx := fun a => match a with
  | ⟨0, _⟩ => ⟨(i 0).val, (i 0).isLt⟩
  | ⟨1, _⟩ => ⟨(i 1).val, (i 1).isLt⟩
  | ⟨2, _⟩ => ⟨c, h⟩

/-- The first result. -/
theorem v107_at (i : S1x256x18944.Idx) : val_main_v107 (F := Ideal) x0 x1 x2 i = outAt X W E (i 1).val (i 2).val := by
  have h2 : (i 2).val < 18944 := (i 2).isLt
  show val_main_v106 (F := Ideal) x0 x1 x2 i = _
  unfold val_main_v106 outAt
  by_cases h : (i 2).val < 9472
  · rw [if_pos h]
    refine (concatenate_pair_apply_left 2 (val_main_v104 (F := Ideal) x0 x1 x2) (val_main_v105 (F := Ideal) x0 x1 x2) _ i rfl (inHalf i (i 2).val h) fun b => ?_).trans ?_
    · match b with
      | ⟨0, _⟩ => rfl
      | ⟨1, _⟩ => rfl
      | ⟨2, _⟩ => rfl
    · rw [v104_at x0 X hx hfit x1 x2 W E hw he]
      rfl
  · rw [if_neg h]
    refine (concatenate_pair_apply_right 2 (val_main_v104 (F := Ideal) x0 x1 x2) (val_main_v105 (F := Ideal) x0 x1 x2) _ i rfl rfl (inHalf i ((i 2).val - 9472) (by omega)) (fun b hb => ?_) ?_).trans ?_
    · match b, hb with
      | ⟨0, _⟩, _ => rfl
      | ⟨1, _⟩, _ => rfl
      | ⟨2, _⟩, hb => exact absurd rfl hb
    · show (i 2).val - 9472 + 9472 = (i 2).val
      omega
    · rw [v105_at x0 X hx hfit x1 x2 W E hw he]
      rfl

end Cert.ReferenceIdeal.Read

end
-- ==== Proof.Ranges.lean ====
/-
  What the precondition says of the input and of the block exponents.
-/
module

public import proofs.«01_k».proof.Pre_in_range
public import proofs.«01_k».proof.Proof.RefValues

@[expose] public section

set_option maxRecDepth 16384

noncomputable section

namespace Cert.Ranges

open Idealize.ShloMosaic Cert.Scalars

theorem facts : Cert.Pre_in_range.Facts where
  bitsLt_bf16_f32 := by decide
  shapeCasts_S1x256x3584_S1x256x224x16 := by decide
  reducesTo_S1x256x224x16_S1x256x224_d3 := Cert.ReferenceIdeal.Gen.facts.reducesTo_S1x256x224x16_S1x256x224_d3
  h_S_ := by decide
  bcast_S_S1x256x224 := by decide
  natLt_8_32 := by decide
  bcast_S_S18944x224 := by decide

theorem f32_least : Ideal.ofBits .f32 0x01000000#32 = (((2 : ℝ) ^ (-125 : ℤ) : ℝ) : EReal) := by
  rw [show Ideal.ofBits .f32 0x01000000#32 = Ideal.ieee 8 23 0x01000000#32 from rfl, ieee_of 8 23 0x01000000#32 false 2 0 (by decide) (by decide) (by decide)]
  norm_num

theorem f32_most : Ideal.ofBits .f32 0x7F7F0000#32 < (((2 : ℝ) ^ (128 : ℤ) : ℝ) : EReal) := by
  rw [show Ideal.ofBits .f32 0x7F7F0000#32 = Ideal.ieee 8 23 0x7F7F0000#32 from rfl, ieee_of 8 23 0x7F7F0000#32 false 254 8323072 (by decide) (by decide) (by decide)]
  rw [if_neg (by norm_num), if_neg (by norm_num), EReal.coe_lt_coe_iff]
  norm_num

/-- The test of one block's largest magnitude. -/
theorem fits_of (a : EReal) (h : IntOp.ori (Ideal.cmp .oeq a (Ideal.ofBits .f32 0x00000000#32))
    (IntOp.andi (Ideal.cmp .oge a (Ideal.ofBits .f32 0x01000000#32)) (Ideal.cmp .ole a (Ideal.ofBits .f32 0x7F7F0000#32))) = 1#1) : Fits a := by
  rw [f32_zero, f32_least] at h
  by_cases h0 : a = 0
  · exact Or.inl h0
  · refine Or.inr ?_
    have hb : ∀ p q r : Bool, p = false → IntOp.ori (BitVec.ofBool p) (IntOp.andi (BitVec.ofBool q) (BitVec.ofBool r)) = 1#1 → q = true ∧ r = true := by decide
    have := hb (decide (a = 0)) (decide (_ ≤ a)) (decide (a ≤ _)) (by simp [h0]) h
    simp only [decide_eq_true_eq] at this
    exact ⟨this.1, this.2.trans_lt f32_most⟩

theorem exp_of (b : BitVec 8) (h : IntOp.cmpi .sle (b.signExtend 32) 118#32 = 1#1) : b.toInt ≤ 118 := by
  have : ∀ n : Fin 256, IntOp.cmpi .sle ((BitVec.ofNat 8 n.val).signExtend 32) 118#32 = 1#1 → (BitVec.ofNat 8 n.val).toInt ≤ 118 := by decide +kernel
  have h' := this ⟨b.toNat, b.isLt⟩
  simp only [BitVec.ofNat_toNat, BitVec.setWidth_eq] at h'
  exact h' h

/-- The row and block of the maxima. -/
def atBlock (r : ℕ) (hr : r < 256) (b : ℕ) (hb : b < 224) : Cert.ReferenceIdeal.S1x256x224.Idx := fun a => match a with
  | ⟨0, _⟩ => ⟨0, Nat.one_pos⟩
  | ⟨1, _⟩ => ⟨r, hr⟩
  | ⟨2, _⟩ => ⟨b, hb⟩

/-- The test of every block's largest magnitude. -/
def tested (v : FVec Ideal Cert.ReferenceIdeal.S1x256x224 .f32) : IVec Cert.ReferenceIdeal.S1x256x224 1 := fun i =>
  IntOp.ori (Ideal.cmp .oeq (v i) (Ideal.ofBits .f32 0x00000000#32))
    (IntOp.andi (Ideal.cmp .oge (v i) (Ideal.ofBits .f32 0x01000000#32)) (Ideal.cmp .ole (v i) (Ideal.ofBits .f32 0x7F7F0000#32)))

variable (x0 : FVec Ideal Cert.ReferenceIdeal.S1x256x3584 .bf16) (x1 : IVec Cert.ReferenceIdeal.S9472x3584 8) (x2 : IVec Cert.ReferenceIdeal.S18944x224 8)

open Cert.Pre_in_range Cert.Pre_in_range.Facts in
/-- The same as the precondition writes it. -/
def written [Cert.Pre_in_range.Facts] (v : FVec Ideal S1x256x224 .f32) : IVec S1x256x224 1 :=
  ori (cmpf .oeq v (broadcastInDim S1x256x224 ![] bcast_S_S1x256x224 (constant S_ .f32 0x00000000#32)))
    (andi (cmpf .oge v (broadcastInDim S1x256x224 ![] bcast_S_S1x256x224 (constant S_ .f32 0x01000000#32)))
      (cmpf .ole v (broadcastInDim S1x256x224 ![] bcast_S_S1x256x224 (constant S_ .f32 0x7F7F0000#32))))

open Cert.Pre_in_range Cert.Pre_in_range.Facts in
theorem fn_fst [Cert.Pre_in_range.Facts] : (Cert.Pre_in_range.fn (F := Ideal) x0 x1 x2).1
    = written (Host.reduce FloatOps.maximumf (Host.absf (shapeCast S1x256x224x16 (extf .f32 x0 bitsLt_bf16_f32) shapeCasts_S1x256x3584_S1x256x224x16))
        (constant S_ .f32 0xFF800000#32) reducesTo_S1x256x224x16_S1x256x224_d3 h_S_) := by
  unfold Cert.Pre_in_range.fn written
  rfl

theorem written_eq (v : FVec Ideal Cert.ReferenceIdeal.S1x256x224 .f32) : @written facts v = tested v := rfl

theorem largest_eq : (@Cert.Pre_in_range.fn facts Ideal _ x0 x1 x2).1 = tested (Cert.ReferenceIdeal.Read.val_main_v3 (F := Ideal) x0) := by
  rw [@fn_fst x0 x1 x2 facts]
  unfold Cert.ReferenceIdeal.Read.val_main_v3 Cert.ReferenceIdeal.Read.val_main_v2 Cert.ReferenceIdeal.Read.val_main_v1
    Cert.ReferenceIdeal.Read.val_main_v0 Cert.ReferenceIdeal.Read.val_main_cst
  exact written_eq _

theorem fits (X : ℕ → ℕ → EReal) (hx : ∀ i : Cert.ReferenceIdeal.S1x256x3584.Idx, x0 i = X (i 1).val (i 2).val)
    (h : (@Cert.Pre_in_range.fn facts Ideal _ x0 x1 x2).1 = fun _ => 1#1) (r b : ℕ) (hr : r < 256) (hb : b < 224) : Fits (amax X r b) := by
  have e : Cert.ReferenceIdeal.Read.val_main_v3 (F := Ideal) x0 (atBlock r hr b hb) = amax X r b :=
    Cert.ReferenceIdeal.Read.v3_at x0 X hx (atBlock r hr b hb)
  rw [largest_eq] at h
  generalize Cert.ReferenceIdeal.Read.val_main_v3 (F := Ideal) x0 = v at h e
  rw [← e]
  exact fits_of _ (congrFun h (atBlock r hr b hb))

theorem exps_le (h : (@Cert.Pre_in_range.fn facts Ideal _ x0 x1 x2).2 = fun _ => 1#1) (i : Cert.ReferenceIdeal.S18944x224.Idx) : (x2 i).toInt ≤ 118 :=
  exp_of _ (congrFun h i)

end Cert.Ranges

end
-- ==== Proof.Equal.lean ====
/-
  The kernel's three results and the reference's are the same functions of the arguments.
-/
module

public import proofs.«01_k».proof.Proof.Results
public import proofs.«01_k».proof.Proof.KernelX
public import proofs.«01_k».proof.Proof.KernelW
public import proofs.«01_k».proof.Proof.Ranges

@[expose] public section

set_option maxRecDepth 16384

noncomputable section

namespace Cert.KernelIdeal.Hand

open Idealize.ShloMosaic Idealize.ShloMosaic.TcCoe Idealize.SL.Sem
open Cert.KernelIdeal Cert.KernelIdeal.Gen Cert.Scalars

/-! ## The arguments by row and column -/

/-- The input; zero outside. -/
def rowsX (x : Vec Ideal S1x256x3584 .bf16) (r c : ℕ) : EReal :=
  if h : r < 256 ∧ c < 3584 then x (ix3 (0 : Fin 1) ⟨r, h.1⟩ ⟨c, h.2⟩) else 0
/-- The packed weights; zero outside. -/
def rowsW (w : Vec Ideal S9472x3584 .i8) (o k : ℕ) : BitVec 8 :=
  if h : o < 9472 ∧ k < 3584 then w (ix2 ⟨o, h.1⟩ ⟨k, h.2⟩) else 0#8
/-- The block exponents; zero outside. -/
def rowsE (e : Vec Ideal S18944x224 .i8) (o b : ℕ) : BitVec 8 :=
  if h : o < 18944 ∧ b < 224 then e (ix2 ⟨o, h.1⟩ ⟨b, h.2⟩) else 0#8

theorem rowsX_at (x : Vec Ideal S1x256x3584 .bf16) (i : S1x256x3584.Idx) : x i = rowsX x (i 1).val (i 2).val := by
  unfold rowsX
  rw [dif_pos ⟨(i 1).isLt, (i 2).isLt⟩]
  congr 1
  funext a
  match a with
  | ⟨0, _⟩ => exact Fin.ext (Nat.lt_one_iff.mp (i 0).isLt)
  | ⟨1, _⟩ => rfl
  | ⟨2, _⟩ => rfl

theorem rowsW_at (w : Vec Ideal S9472x3584 .i8) (i : S9472x3584.Idx) : w i = rowsW w (i 0).val (i 1).val := by
  unfold rowsW
  rw [dif_pos ⟨(i 0).isLt, (i 1).isLt⟩]
  congr 1
  funext a
  match a with
  | ⟨0, _⟩ => rfl
  | ⟨1, _⟩ => rfl

theorem rowsE_at (e : Vec Ideal S18944x224 .i8) (i : S18944x224.Idx) : e i = rowsE e (i 0).val (i 1).val := by
  unfold rowsE
  rw [dif_pos ⟨(i 0).isLt, (i 1).isLt⟩]
  congr 1
  funext a
  match a with
  | ⟨0, _⟩ => rfl
  | ⟨1, _⟩ => rfl

theorem rowsE_le (e : Vec Ideal S18944x224 .i8) (h : ∀ i, (e i).toInt ≤ 118) (o b : ℕ) : (rowsE e o b).toInt ≤ 118 := by
  unfold rowsE
  split
  · exact h _
  · decide

/-! ## The kernel's results -/

variable (m : (ℓ : Loc nD τ sig) → Buf (Elt Ideal) ℓ) (c : Dev nD)
  (x0 : Vec Ideal S1x256x3584 .bf16) (x1 : Vec Ideal S9472x3584 .i8) (x2 : Vec Ideal S18944x224 .i8)
  (h0 : m ((c : Thread nD τ).loc main_arg0) = x0) (h1 : m ((c : Thread nD τ).loc main_arg1) = x1) (h2 : m ((c : Thread nD τ).loc main_arg2) = x2)
  (hfit : ∀ r b, r < 256 → b < 224 → Fits (amax (rowsX x0) r b)) (hexp : ∀ i, (x2 i).toInt ≤ 118)

/-- Row `r` and column `k` with the unit axis in front. -/
def in3584 (y : S256x3584.Idx) : S1x256x3584.Idx := fun a => match a with
  | ⟨0, _⟩ => ⟨0, Nat.one_pos⟩
  | ⟨1, _⟩ => ⟨(y 0).val, (y 0).isLt⟩
  | ⟨2, _⟩ => ⟨(y 1).val, (y 1).isLt⟩

include h0 in
theorem xin_rows (y : S256x3584.Idx) : xin m c y = rowsX x0 (y 0).val (y 1).val := by
  subst h0
  exact (xin_at m c y (in3584 y) rfl rfl).trans (rowsX_at _ _)

include h1 in
theorem wq_rows (t : Fin cfg0.N) (y : S256x3584.Idx) : (iblk m c 1 t : IVec S256x3584 8) y = rowsW x1 (256 * t.val + (y 0).val) (y 1).val := by
  subst h1
  have ht : t.val < 37 := t.isLt
  have hy : (y 0).val < 256 := (y 0).isLt
  exact (wq_at m c t y (ix2 (⟨256 * t.val + (y 0).val, by omega⟩ : Fin 9472) (⟨(y 1).val, (y 1).isLt⟩ : Fin 3584)) rfl rfl).trans (rowsW_at _ _)

include h2 in
theorem elo_rows (t : Fin cfg0.N) (y : S256x224.Idx) : (iblk m c 2 t : IVec S256x224 8) y = rowsE x2 (256 * t.val + (y 0).val) (y 1).val := by
  subst h2
  have ht : t.val < 37 := t.isLt
  have hy : (y 0).val < 256 := (y 0).isLt
  exact (elo_at m c t y (ix2 (⟨256 * t.val + (y 0).val, by omega⟩ : Fin 18944) (⟨(y 1).val, (y 1).isLt⟩ : Fin 224)) rfl rfl).trans (rowsE_at _ _)

include h2 in
theorem ehi_rows (t : Fin cfg0.N) (y : S256x224.Idx) : (iblk m c 3 t : IVec S256x224 8) y = rowsE x2 (9472 + 256 * t.val + (y 0).val) (y 1).val := by
  subst h2
  have ht : t.val < 37 := t.isLt
  have hy : (y 0).val < 256 := (y 0).isLt
  exact (ehi_at m c t y (ix2 (⟨9472 + 256 * t.val + (y 0).val, by omega⟩ : Fin 18944) (⟨(y 1).val, (y 1).isLt⟩ : Fin 224)) rfl rfl).trans (rowsE_at _ _)

include h0 hfit in
theorem xop_rows (y : S256x3584.Idx) : XOP (xin m c) y = xQuant (rowsX x0) (y 0).val (y 1).val :=
  XOP_apply (xin m c) (rowsX x0) (xin_rows m c x0 h0) hfit y

include h0 h1 h2 hfit hexp

theorem ylo_rows (t : Fin cfg0.N) (j : S256x256.Idx) :
    ylo m c t j = dotAt (xQuant (rowsX x0)) (wLow (rowsW x1) (rowsE x2)) (j 0).val (256 * t.val + (j 1).val) :=
  YLO_apply _ _ (fun o k => rowsW x1 (256 * t.val + o) k) (fun o b => rowsE x2 (256 * t.val + o) b) (wq_rows m c x1 h1 t) (elo_rows m c x2 h2 t)
    (fun _ _ => rowsE_le x2 hexp _ _) _ (xQuant (rowsX x0)) (xop_rows m c x0 h0 hfit) j

theorem yhi_rows (t : Fin cfg0.N) (j : S256x256.Idx) :
    yhi m c t j = dotAt (xQuant (rowsX x0)) (wHigh (rowsW x1) (rowsE x2)) (j 0).val (256 * t.val + (j 1).val) := by
  refine (YHI_apply _ _ (fun o k => rowsW x1 (256 * t.val + o) k) (fun o b => rowsE x2 (9472 + 256 * t.val + o) b) (wq_rows m c x1 h1 t) (ehi_rows m c x2 h2 t)
    (fun _ _ => rowsE_le x2 hexp _ _) _ (xQuant (rowsX x0)) (xop_rows m c x0 h0 hfit) j).trans ?_
  unfold dotAt wHigh wAt
  simp only [Nat.add_assoc]

theorem spread_rows (f : Fin cfg0.N → Vec Ideal S256x256 .bf16) (G : ℕ → ℕ → EReal)
    (hf : ∀ t j, f t j = G (j 0).val (256 * t.val + (j 1).val)) (i : S256x9472.Idx) : spread f i = G (i 0).val (i 1).val := by
  unfold spread
  rw [hf]
  show G (i 0).val (256 * ((i 1).val / 256) + (i 1).val % 256) = _
  rw [Nat.div_add_mod]

/-- A column among the 9472 of a half. -/
def half (r : ℕ) (hr : r < 256) (k : ℕ) (hk : k < 9472) : S256x9472.Idx := fun a => match a with
  | ⟨0, _⟩ => ⟨r, hr⟩
  | ⟨1, _⟩ => ⟨k, hk⟩
/-- A column among all. -/
def whole (r : ℕ) (hr : r < 256) (k : ℕ) (hk : k < 18944) : S256x18944.Idx := fun a => match a with
  | ⟨0, _⟩ => ⟨r, hr⟩
  | ⟨1, _⟩ => ⟨k, hk⟩

omit h0 h1 h2 hfit hexp in
theorem joined (a b : Vec Ideal S256x9472 .bf16) (A B : ℕ → ℕ → EReal) (ha : ∀ i, a i = A (i 0).val (i 1).val) (hb : ∀ i, b i = B (i 0).val (i 1).val)
    (i : S1x256x18944.Idx) :
    shapeCast S1x256x18944 (concatenate S256x18944 1 [⟨S256x9472, a⟩, ⟨S256x9472, b⟩] concatenates_S256x9472_S256x9472_S256x18944_d1)
      shapeCasts_S256x18944_S1x256x18944 i
      = if (i 2).val < 9472 then A (i 1).val (i 2).val else B (i 1).val ((i 2).val - 9472) := by
  have i0 : (i 0).val < 1 := (i 0).isLt
  have i2 : (i 2).val < 18944 := (i 2).isLt
  refine (shapeCast_apply _ _ i (whole (i 1).val (i 1).isLt (i 2).val i2) ?_).trans ?_
  · rw [Shape.rowMajor_val_three, Shape.rowMajor_val_two]
    show (i 1).val * 18944 + (i 2).val = ((i 0).val * 256 + (i 1).val) * 18944 + (i 2).val
    omega
  by_cases h : (i 2).val < 9472
  · rw [if_pos h]
    refine (concatenate_pair_apply_left 1 a b _ (whole (i 1).val (i 1).isLt (i 2).val i2) rfl (half (i 1).val (i 1).isLt (i 2).val h) fun d => ?_).trans (ha _)
    match d with
    | ⟨0, _⟩ => rfl
    | ⟨1, _⟩ => rfl
  · rw [if_neg h]
    refine (concatenate_pair_apply_right 1 a b _ (whole (i 1).val (i 1).isLt (i 2).val i2) rfl rfl (half (i 1).val (i 1).isLt ((i 2).val - 9472) (by omega))
      (fun d hd => ?_) ?_).trans (hb _)
    · match d, hd with
      | ⟨0, _⟩, _ => rfl
      | ⟨1, _⟩, hd => exact absurd rfl hd
    · show (i 2).val - 9472 + 9472 = (i 2).val
      omega

theorem result0_rows (i : S1x256x18944.Idx) : result0 m c i = outAt (rowsX x0) (rowsW x1) (rowsE x2) (i 1).val (i 2).val := by
  unfold result0 outAt
  exact joined _ _ _ _ (spread_rows m c x0 x1 x2 h0 h1 h2 hfit hexp _ _ (ylo_rows m c x0 x1 x2 h0 h1 h2 hfit hexp))
    (spread_rows m c x0 x1 x2 h0 h1 h2 hfit hexp _ _ (yhi_rows m c x0 x1 x2 h0 h1 h2 hfit hexp)) i

omit h1 h2 hexp

theorem result1_rows (i : S1x256x1792.Idx) :
    result1 m c i = byteOf (codeAt (rowsX x0) (i 1).val (2 * (i 2).val)) (codeAt (rowsX x0) (i 1).val (2 * (i 2).val + 1)) := by
  have i0 : (i 0).val < 1 := (i 0).isLt
  unfold result1
  refine (shapeCast_apply _ _ i (ix2 (⟨(i 1).val, (i 1).isLt⟩ : Fin 256) (⟨(i 2).val, (i 2).isLt⟩ : Fin 1792)) ?_).trans
    (XP_apply (xin m c) (rowsX x0) (xin_rows m c x0 h0) hfit _)
  rw [Shape.rowMajor_val_three, Shape.rowMajor_val_two]
  show (i 1).val * 1792 + (i 2).val = ((i 0).val * 256 + (i 1).val) * 1792 + (i 2).val
  omega

theorem result2_rows (i : S1x256x224.Idx) : result2 m c i = (BitVec.ofInt 32 (expAt (rowsX x0) (i 1).val (i 2).val)).setWidth 8 := by
  have i0 : (i 0).val < 1 := (i 0).isLt
  unfold result2
  refine (shapeCast_apply _ _ i (ix2 (⟨(i 1).val, (i 1).isLt⟩ : Fin 256) (⟨(i 2).val, (i 2).isLt⟩ : Fin 224)) ?_).trans
    (XE_apply (xin m c) (rowsX x0) (xin_rows m c x0 h0) hfit _)
  rw [Shape.rowMajor_val_three, Shape.rowMajor_val_two]
  show (i 1).val * 224 + (i 2).val = ((i 0).val * 256 + (i 1).val) * 224 + (i 2).val
  omega

/-! ## The same as the reference's -/

include h1 h2 hexp in
theorem same0 : result0 m c = Cert.ReferenceIdeal.Read.val_main_v107 (F := Ideal) x0 x1 x2 := funext fun i =>
  (result0_rows m c x0 x1 x2 h0 h1 h2 hfit hexp i).trans
    (Cert.ReferenceIdeal.Read.v107_at x0 (rowsX x0) (rowsX_at x0) hfit x1 x2 (rowsW x1) (rowsE x2) (rowsW_at x1) (rowsE_at x2) i).symm

theorem same1 : result1 m c = Cert.ReferenceIdeal.Read.val_main_v42 (F := Ideal) x0 := funext fun i =>
  (result1_rows m c x0 h0 hfit i).trans (Cert.ReferenceIdeal.Read.v42_at x0 (rowsX x0) (rowsX_at x0) hfit i).symm

theorem same2 : result2 m c = Cert.ReferenceIdeal.Read.val_main_v28 (F := Ideal) x0 := funext fun i =>
  (result2_rows m c x0 h0 hfit i).trans (Cert.ReferenceIdeal.Read.v28_at x0 (rowsX x0) (rowsX_at x0) hfit i).symm

end Cert.KernelIdeal.Hand

end
-- ==== Proof.lean ====
module

public import proofs.«01_k».proof.Defs
public import proofs.«01_k».proof.Proof.KernelFrame
public import proofs.«01_k».proof.Proof.Gen.ReferenceIdeal.Run
public import proofs.«01_k».proof.Proof.Equal

@[expose] public section

set_option maxRecDepth 16384

noncomputable section

namespace Cert.Proof

open Idealize.ShloMosaic Idealize.ShloMosaic.TcCoe Idealize.SL.Sem

/-- The reference runs and leaves its arguments and the semaphores as they were. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run m ρ)

/-- Both run, with equal results. -/
theorem values : Cert.algebraic_KernelIdeal_ReferenceIdeal_pre_in_range (hKernelIdeal := Cert.KernelIdeal.Gen.facts)
    (hReferenceIdeal := Cert.ReferenceIdeal.Gen.facts) (hPre_in_range := Cert.Ranges.facts) := by
  intro m ρ m' ρ' hpre hagree
  have hfit (c : Dev Cert.KernelIdeal.nD) := Cert.Ranges.fits (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (Cert.KernelIdeal.Hand.rowsX _) (Cert.KernelIdeal.Hand.rowsX_at _) (hpre c).1
  have hexp (c : Dev Cert.KernelIdeal.nD) := Cert.Ranges.exps_le (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (hpre c).2
  refine ⟨_, _, _, Cert.KernelIdeal.Hand.results_run m ρ, ?_⟩
  refine (θ_run _ _ _).mono (fun _ h c => ?_) (Cert.ReferenceIdeal.Value.run (F := Ideal) m' ρ')
  obtain ⟨a0, a1, a2⟩ := hagree c
  refine ⟨(h c).1.trans ?_, (h c).2.1.trans ?_, (h c).2.2.1.trans ?_, (h c).2.2.2⟩
  · rw [Cert.ReferenceIdeal.Read.val_main_v107_eq, a0, a1, a2]
    exact (Cert.KernelIdeal.Hand.same0 m c _ _ _ rfl rfl rfl (hfit c) (hexp c)).symm
  · rw [Cert.ReferenceIdeal.Read.val_main_v42_eq, a0]
    exact (Cert.KernelIdeal.Hand.same1 m c _ rfl (hfit c)).symm
  · refine (Cert.ReferenceIdeal.Read.val_main_v28_eq (m' ((c.tc : Thread Cert.ReferenceIdeal.nD Cert.ReferenceIdeal.τ).loc Cert.ReferenceIdeal.main_arg0))).trans ?_
    rw [a0]
    exact (Cert.KernelIdeal.Hand.same2 m c _ rfl (hfit c)).symm

theorem claim : Cert.Claim :=
  ⟨Cert.Kernel.Gen.facts, Cert.KernelIdeal.Gen.facts, Cert.ReferenceIdeal.Gen.facts, Cert.Ranges.facts,
    fun m ρ _ => Cert.Kernel.Hand.frame m ρ, fun m ρ _ => Cert.KernelIdeal.Hand.frame m ρ, fun m ρ _ => Cert.KernelIdeal.Hand.frame m ρ,
    reference_frame, fun m ρ _ => reference_frame m ρ trivial, trivial, values⟩

end Cert.Proof

end
